-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5)
      ∧ r.2.mem ((c.tc : Thread Cert.Down.nD Cert.Down.τ).loc Cert.Down.main_arg6) = m ((c.tc : Thread Cert.Down.nD Cert.Down.τ).loc Cert.Down.main_arg6))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
      ∧ r.2.mem ((c.tc : Thread Cert.DownIdeal.nD Cert.DownIdeal.τ).loc Cert.DownIdeal.main_arg6) = m ((c.tc : Thread Cert.DownIdeal.nD Cert.DownIdeal.τ).loc Cert.DownIdeal.main_arg6))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3)
      ∧ r.2.mem ((c.tc : Thread Cert.DownReferenceIdeal.nD Cert.DownReferenceIdeal.τ).loc Cert.DownReferenceIdeal.main_arg4) = m ((c.tc : Thread Cert.DownReferenceIdeal.nD Cert.DownReferenceIdeal.τ).loc Cert.DownReferenceIdeal.main_arg4)
      ∧ r.2.mem ((c.tc : Thread Cert.DownReferenceIdeal.nD Cert.DownReferenceIdeal.τ).loc Cert.DownReferenceIdeal.main_arg5) = m ((c.tc : Thread Cert.DownReferenceIdeal.nD Cert.DownReferenceIdeal.τ).loc Cert.DownReferenceIdeal.main_arg5)
      ∧ r.2.mem ((c.tc : Thread Cert.DownReferenceIdeal.nD Cert.DownReferenceIdeal.τ).loc Cert.DownReferenceIdeal.main_arg6) = m ((c.tc : Thread Cert.DownReferenceIdeal.nD Cert.DownReferenceIdeal.τ).loc Cert.DownReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)
      ∧ m' ((c.tc : Thread Cert.DownReferenceIdeal.nD Cert.DownReferenceIdeal.τ).loc Cert.DownReferenceIdeal.main_arg4) = m ((c.tc : Thread Cert.DownIdeal.nD Cert.DownIdeal.τ).loc Cert.DownIdeal.main_arg4)
      ∧ m' ((c.tc : Thread Cert.DownReferenceIdeal.nD Cert.DownReferenceIdeal.τ).loc Cert.DownReferenceIdeal.main_arg5) = m ((c.tc : Thread Cert.DownIdeal.nD Cert.DownIdeal.τ).loc Cert.DownIdeal.main_arg5)
      ∧ m' ((c.tc : Thread Cert.DownReferenceIdeal.nD Cert.DownReferenceIdeal.τ).loc Cert.DownReferenceIdeal.main_arg6) = m ((c.tc : Thread Cert.DownIdeal.nD Cert.DownIdeal.τ).loc Cert.DownIdeal.main_arg6)) →
    ∃ (v0 : (c : Dev Cert.DownIdeal.nD) → Buf (Elt Ideal) ((c.tc : Thread Cert.DownIdeal.nD Cert.DownIdeal.τ).loc Cert.DownIdeal.main_v0_0)) (v1 : (c : Dev Cert.DownIdeal.nD) → Buf (Elt Ideal) ((c.tc : Thread Cert.DownIdeal.nD Cert.DownIdeal.τ).loc Cert.DownIdeal.main_v0_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0_0) = v0 c
          ∧ r.2.mem ((c.tc : Thread Cert.DownIdeal.nD Cert.DownIdeal.τ).loc Cert.DownIdeal.main_v0_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
          ∧ r.2.mem ((c.tc : Thread Cert.DownIdeal.nD Cert.DownIdeal.τ).loc Cert.DownIdeal.main_arg6) = m ((c.tc : Thread Cert.DownIdeal.nD Cert.DownIdeal.τ).loc Cert.DownIdeal.main_arg6))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v0_0) = v0 c
          ∧ r.2.mem ((c.tc : Thread Cert.DownReferenceIdeal.nD Cert.DownReferenceIdeal.τ).loc Cert.DownReferenceIdeal.main_v0_1) = v1 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3)
          ∧ r.2.mem ((c.tc : Thread Cert.DownReferenceIdeal.nD Cert.DownReferenceIdeal.τ).loc Cert.DownReferenceIdeal.main_arg4) = m' ((c.tc : Thread Cert.DownReferenceIdeal.nD Cert.DownReferenceIdeal.τ).loc Cert.DownReferenceIdeal.main_arg4)
          ∧ r.2.mem ((c.tc : Thread Cert.DownReferenceIdeal.nD Cert.DownReferenceIdeal.τ).loc Cert.DownReferenceIdeal.main_arg5) = m' ((c.tc : Thread Cert.DownReferenceIdeal.nD Cert.DownReferenceIdeal.τ).loc Cert.DownReferenceIdeal.main_arg5)
          ∧ r.2.mem ((c.tc : Thread Cert.DownReferenceIdeal.nD Cert.DownReferenceIdeal.τ).loc Cert.DownReferenceIdeal.main_arg6) = m' ((c.tc : Thread Cert.DownReferenceIdeal.nD Cert.DownReferenceIdeal.τ).loc Cert.DownReferenceIdeal.main_arg6))

def Claim : Prop :=
  ∃ (hKernel : Cert.Kernel.Facts) (hKernelIdeal : Cert.KernelIdeal.Facts) (hReferenceIdeal : Cert.ReferenceIdeal.Facts) (hDown : Cert.Down.Facts) (hDownIdeal : Cert.DownIdeal.Facts) (hDownReferenceIdeal : Cert.DownReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Down (hDown := hDown)
    ∧ quiescent_DownIdeal (hDownIdeal := hDownIdeal)
    ∧ quiescent_DownReferenceIdeal (hDownReferenceIdeal := hDownReferenceIdeal)
    ∧ preserves_Kernel_KernelIdeal
    ∧ algebraic_KernelIdeal_ReferenceIdeal (hKernelIdeal := hKernelIdeal) (hReferenceIdeal := hReferenceIdeal)
    ∧ preserves_Down_DownIdeal
    ∧ algebraic_DownIdeal_DownReferenceIdeal (hDownIdeal := hDownIdeal) (hDownReferenceIdeal := hDownReferenceIdeal)
-- ==== Kernel.lean ====
abbrev S6144x4096 : Shape := ⟨2, ![6144, 4096]⟩
abbrev S3x32x2048 : Shape := ⟨3, ![3, 32, 2048]⟩
abbrev S4096x3584 : Shape := ⟨2, ![4096, 3584]⟩
abbrev S32x28 : Shape := ⟨2, ![32, 28]⟩
abbrev S6144x3584 : Shape := ⟨2, ![6144, 3584]⟩
abbrev S3x28x1x2048 : Shape := ⟨4, ![3, 28, 1, 2048]⟩
abbrev S3x3584x2048 : Shape := ⟨3, ![3, 3584, 2048]⟩
abbrev S3x16x3584 : Shape := ⟨3, ![3, 16, 3584]⟩
abbrev S1024x4096 : Shape := ⟨2, ![1024, 4096]⟩
abbrev S1x32x1024 : Shape := ⟨3, ![1, 32, 1024]⟩
abbrev S4096x128 : Shape := ⟨2, ![4096, 128]⟩
abbrev S1024x128 : Shape := ⟨2, ![1024, 128]⟩
abbrev S1x1x1x1024 : Shape := ⟨4, ![1, 1, 1, 1024]⟩
abbrev S1x128x1024 : Shape := ⟨3, ![1, 128, 1024]⟩
abbrev S1x8x128 : Shape := ⟨3, ![1, 8, 128]⟩
abbrev S1x32x128 : Shape := ⟨3, ![1, 32, 128]⟩
abbrev S32x128 : Shape := ⟨2, ![32, 128]⟩
abbrev S96x128 : Shape := ⟨2, ![96, 128]⟩
abbrev S128x128 : Shape := ⟨2, ![128, 128]⟩
abbrev S128x4096 : Shape := ⟨2, ![128, 4096]⟩
abbrev S128x1 : Shape := ⟨2, ![128, 1]⟩
abbrev S1x1 : Shape := ⟨2, ![1, 1]⟩
abbrev S4096x256 : Shape := ⟨2, ![4096, 256]⟩
abbrev S1024x256 : Shape := ⟨2, ![1024, 256]⟩
abbrev S128 : Shape := ⟨1, ![128]⟩
abbrev S1x128 : Shape := ⟨2, ![1, 128]⟩
abbrev S1x1x1x128 : Shape := ⟨4, ![1, 1, 1, 128]⟩
abbrev S1x1x128 : Shape := ⟨3, ![1, 1, 128]⟩
abbrev S1x128x128 : Shape := ⟨3, ![1, 128, 128]⟩

abbrev nBuf : Space → Nat
  | .hbm => 10
  | .vmem => 17
  | .smem => 2
  | _ => 0

abbrev bufTy : (tb : Table) → Fin (tcTables nBuf tb) → BufTy
  | .hbm, ⟨0, _⟩ => ⟨S6144x4096, .fp8e4m3⟩
  | .hbm, ⟨1, _⟩ => ⟨S3x32x2048, .f32⟩
  | .hbm, ⟨2, _⟩ => ⟨S4096x3584, .fp8e4m3⟩
  | .hbm, ⟨3, _⟩ => ⟨S32x28, .f32⟩
  | .hbm, ⟨4, _⟩ => ⟨S4096x3584, .fp8e4m3⟩
  | .hbm, ⟨5, _⟩ => ⟨S32x28, .f32⟩
  | .hbm, ⟨6, _⟩ => ⟨S6144x3584, .fp8e4m3⟩
  | .hbm, ⟨7, _⟩ => ⟨S3x28x1x2048, .f32⟩
  | .hbm, ⟨8, _⟩ => ⟨S3x3584x2048, .fp8e4m3⟩
  | .hbm, ⟨9, _⟩ => ⟨S3x16x3584, .f32⟩
  | .local _ .vmem, ⟨0, _⟩ => ⟨S1024x4096, .fp8e4m3⟩
  | .local _ .vmem, ⟨1, _⟩ => ⟨S1024x4096, .fp8e4m3⟩
  | .local _ .vmem, ⟨2, _⟩ => ⟨S1x32x1024, .f32⟩
  | .local _ .vmem, ⟨3, _⟩ => ⟨S1x32x1024, .f32⟩
  | .local _ .vmem, ⟨4, _⟩ => ⟨S4096x128, .fp8e4m3⟩
  | .local _ .vmem, ⟨5, _⟩ => ⟨S4096x128, .fp8e4m3⟩
  | .local _ .vmem, ⟨6, _⟩ => ⟨S4096x128, .fp8e4m3⟩
  | .local _ .vmem, ⟨7, _⟩ => ⟨S4096x128, .fp8e4m3⟩
  | .local _ .vmem, ⟨8, _⟩ => ⟨S1024x128, .fp8e4m3⟩
  | .local _ .vmem, ⟨9, _⟩ => ⟨S1024x128, .fp8e4m3⟩
  | .local _ .vmem, ⟨10, _⟩ => ⟨S1x1x1x1024, .f32⟩
  | .local _ .vmem, ⟨11, _⟩ => ⟨S1x1x1x1024, .f32⟩
  | .local _ .vmem, ⟨12, _⟩ => ⟨S1x128x1024, .fp8e4m3⟩
  | .local _ .vmem, ⟨13, _⟩ => ⟨S1x128x1024, .fp8e4m3⟩
  | .local _ .vmem, ⟨14, _⟩ => ⟨S1x8x128, .f32⟩
  | .local _ .vmem, ⟨15, _⟩ => ⟨S1x8x128, .f32⟩
  | .local _ .vmem, ⟨16, _⟩ => ⟨S1024x4096, .bf16⟩
  | .local _ .smem, ⟨0, _⟩ => ⟨S32x28, .f32⟩
  | .local _ .smem, ⟨1, _⟩ => ⟨S32x28, .f32⟩
  | _, _ => ⟨S6144x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_stg4_0 : Ref sig .tc := ⟨.smem, 0, rfl⟩
abbrev cc0_stg5_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![6, 28], ![false, false]⟩

def k0_off1 (i : grid0.Coords) : Fin 2 → Nat :=
  let c0_3 : Index := 0#32
  let arg1 : BitVec 32 := BitVec.ofNat 32 (i 1).val
  let c1_i32 : BitVec 32 := 1#32
  let v5 : BitVec 32 := Scalar.muli arg1 c1_i32
  let c0_i32_2 : BitVec 32 := 0#32
  let v6 : BitVec 32 := Scalar.addi v5 c0_i32_2
  let v7 : Index := Scalar.indexCast v6
  ![0, v7.toNat]
def k0_off2 (i : grid0.Coords) : Fin 2 → Nat :=
  let c1 : Index := 1#32
  let arg1 : BitVec 32 := BitVec.ofNat 32 (i 1).val
  let c1_i32_5 : BitVec 32 := 1#32
  let v14 : BitVec 32 := Scalar.muli arg1 c1_i32_5
  let c0_i32_6 : BitVec 32 := 0#32
  let v15 : BitVec 32 := Scalar.addi v14 c0_i32_6
  let v16 : Index := Scalar.indexCast v15
  ![1, v16.toNat]
def k0_off3 (i : grid0.Coords) : Fin 2 → Nat :=
  let c2 : Index := 2#32
  let arg1 : BitVec 32 := BitVec.ofNat 32 (i 1).val
  let c1_i32_8 : BitVec 32 := 1#32
  let v23 : BitVec 32 := Scalar.muli arg1 c1_i32_8
  let c0_i32_9 : BitVec 32 := 0#32
  let v24 : BitVec 32 := Scalar.addi v23 c0_i32_9
  let v25 : Index := Scalar.indexCast v24
  ![2, v25.toNat]
def k0_off4 (i : grid0.Coords) : Fin 2 → Nat :=
  let c3 : Index := 3#32
  let arg1 : BitVec 32 := BitVec.ofNat 32 (i 1).val
  let c1_i32_11 : BitVec 32 := 1#32
  let v32 : BitVec 32 := Scalar.muli arg1 c1_i32_11
  let c0_i32_12 : BitVec 32 := 0#32
  let v33 : BitVec 32 := Scalar.addi v32 c0_i32_12
  let v34 : Index := Scalar.indexCast v33
  ![3, v34.toNat]
def k0_off5 (i : grid0.Coords) : Fin 2 → Nat :=
  let c4 : Index := 4#32
  let arg1 : BitVec 32 := BitVec.ofNat 32 (i 1).val
  let c1_i32_14 : BitVec 32 := 1#32
  let v41 : BitVec 32 := Scalar.muli arg1 c1_i32_14
  let c0_i32_15 : BitVec 32 := 0#32
  let v42 : BitVec 32 := Scalar.addi v41 c0_i32_15
  let v43 : Index := Scalar.indexCast v42
  ![4, v43.toNat]
def k0_off6 (i : grid0.Coords) : Fin 2 → Nat :=
  let c5 : Index := 5#32
  let arg1 : BitVec 32 := BitVec.ofNat 32 (i 1).val
  let c1_i32_17 : BitVec 32 := 1#32
  let v50 : BitVec 32 := Scalar.muli arg1 c1_i32_17
  let c0_i32_18 : BitVec 32 := 0#32
  let v51 : BitVec 32 := Scalar.addi v50 c0_i32_18
  let v52 : Index := Scalar.indexCast v51
  ![5, v52.toNat]
def k0_off7 (i : grid0.Coords) : Fin 2 → Nat :=
  let c6 : Index := 6#32
  let arg1 : BitVec 32 := BitVec.ofNat 32 (i 1).val
  let c1_i32_20 : BitVec 32 := 1#32
  let v59 : BitVec 32 := Scalar.muli arg1 c1_i32_20
  let c0_i32_21 : BitVec 32 := 0#32
  let v60 : BitVec 32 := Scalar.addi v59 c0_i32_21
  let v61 : Index := Scalar.indexCast v60
  ![6, v61.toNat]
def k0_off8 (i : grid0.Coords) : Fin 2 → Nat :=
  let c7 : Index := 7#32
  let arg1 : BitVec 32 := BitVec.ofNat 32 (i 1).val
  let c1_i32_23 : BitVec 32 := 1#32
  let v68 : BitVec 32 := Scalar.muli arg1 c1_i32_23
  let c0_i32_24 : BitVec 32 := 0#32
  let v69 : BitVec 32 := Scalar.addi v68 c0_i32_24
  let v70 : Index := Scalar.indexCast v69
  ![7, v70.toNat]
def k0_off9 (i : grid0.Coords) : Fin 2 → Nat :=
  let c8 : Index := 8#32
  let arg1 : BitVec 32 := BitVec.ofNat 32 (i 1).val
  let c1_i32_26 : BitVec 32 := 1#32
  let v77 : BitVec 32 := Scalar.muli arg1 c1_i32_26
  let c0_i32_27 : BitVec 32 := 0#32
  let v78 : BitVec 32 := Scalar.addi v77 c0_i32_27
  let v79 : Index := Scalar.indexCast v78
  ![8, v79.toNat]
def k0_off10 (i : grid0.Coords) : Fin 2 → Nat :=
  let c9 : Index := 9#32
  let arg1 : BitVec 32 := BitVec.ofNat 32 (i 1).val
  let c1_i32_29 : BitVec 32 := 1#32
  let v86 : BitVec 32 := Scalar.muli arg1 c1_i32_29
  let c0_i32_30 : BitVec 32 := 0#32
  let v87 : BitVec 32 := Scalar.addi v86 c0_i32_30
  let v88 : Index := Scalar.indexCast v87
  ![9, v88.toNat]
def k0_off11 (i : grid0.Coords) : Fin 2 → Nat :=
  let c10 : Index := 10#32
  let arg1 : BitVec 32 := BitVec.ofNat 32 (i 1).val
  let c1_i32_32 : BitVec 32 := 1#32
  let v95 : BitVec 32 := Scalar.muli arg1 c1_i32_32
  let c0_i32_33 : BitVec 32 := 0#32
  let v96 : BitVec 32 := Scalar.addi v95 c0_i32_33
  let v97 : Index := Scalar.indexCast v96
  ![10, v97.toNat]
def k0_off12 (i : grid0.Coords) : Fin 2 → Nat :=
  let c11 : Index := 11#32
  let arg1 : BitVec 32 := BitVec.ofNat 32 (i 1).val
  let c1_i32_35 : BitVec 32 := 1#32
  let v104 : BitVec 32 := Scalar.muli arg1 c1_i32_35
  let c0_i32_36 : BitVec 32 := 0#32
  let v105 : BitVec 32 := Scalar.addi v104 c0_i32_36
  let v106 : Index := Scalar.indexCast v105
  ![11, v106.toNat]
def k0_off13 (i : grid0.Coords) : Fin 2 → Nat :=
  let c12 : Index := 12#32
  let arg1 : BitVec 32 := BitVec.ofNat 32 (i 1).val
  let c1_i32_38 : BitVec 32 := 1#32
  let v113 : BitVec 32 := Scalar.muli arg1 c1_i32_38
  let c0_i32_39 : BitVec 32 := 0#32
  let v114 : BitVec 32 := Scalar.addi v113 c0_i32_39
  let v115 : Index := Scalar.indexCast v114
  ![12, v115.toNat]
def k0_off14 (i : grid0.Coords) : Fin 2 → Nat :=
  let c13 : Index := 13#32
  let arg1 : BitVec 32 := BitVec.ofNat 32 (i 1).val
  let c1_i32_41 : BitVec 32 := 1#32
  let v122 : BitVec 32 := Scalar.muli arg1 c1_i32_41
  let c0_i32_42 : BitVec 32 := 0#32
  let v123 : BitVec 32 := Scalar.addi v122 c0_i32_42
  let v124 : Index := Scalar.indexCast v123
  ![13, v124.toNat]
def k0_off15 (i : grid0.Coords) : Fin 2 → Nat :=
  let c14 : Index := 14#32
  let arg1 : BitVec 32 := BitVec.ofNat 32 (i 1).val
  let c1_i32_44 : BitVec 32 := 1#32
  let v131 : BitVec 32 := Scalar.muli arg1 c1_i32_44
  let c0_i32_45 : BitVec 32 := 0#32
  let v132 : BitVec 32 := Scalar.addi v131 c0_i32_45
  let v133 : Index := Scalar.indexCast v132
  ![14, v133.toNat]
def k0_off16 (i : grid0.Coords) : Fin 2 → Nat :=
  let c15 : Index := 15#32
  let arg1 : BitVec 32 := BitVec.ofNat 32 (i 1).val
  let c1_i32_47 : BitVec 32 := 1#32
  let v140 : BitVec 32 := Scalar.muli arg1 c1_i32_47
  let c0_i32_48 : BitVec 32 := 0#32
  let v141 : BitVec 32 := Scalar.addi v140 c0_i32_48
  let v142 : Index := Scalar.indexCast v141
  ![15, v142.toNat]
def k0_off17 (i : grid0.Coords) : Fin 2 → Nat :=
  let c16 : Index := 16#32
  let arg1 : BitVec 32 := BitVec.ofNat 32 (i 1).val
  let c1_i32_50 : BitVec 32 := 1#32
  let v149 : BitVec 32 := Scalar.muli arg1 c1_i32_50
  let c0_i32_51 : BitVec 32 := 0#32
  let v150 : BitVec 32 := Scalar.addi v149 c0_i32_51
  let v151 : Index := Scalar.indexCast v150
  ![16, v151.toNat]
def k0_off18 (i : grid0.Coords) : Fin 2 → Nat :=
  let c17 : Index := 17#32
  let arg1 : BitVec 32 := BitVec.ofNat 32 (i 1).val
  let c1_i32_53 : BitVec 32 := 1#32
  let v158 : BitVec 32 := Scalar.muli arg1 c1_i32_53
  let c0_i32_54 : BitVec 32 := 0#32
  let v159 : BitVec 32 := Scalar.addi v158 c0_i32_54
  let v160 : Index := Scalar.indexCast v159
  ![17, v160.toNat]
def k0_off19 (i : grid0.Coords) : Fin 2 → Nat :=
  let c18 : Index := 18#32
  let arg1 : BitVec 32 := BitVec.ofNat 32 (i 1).val
  let c1_i32_56 : BitVec 32 := 1#32
  let v167 : BitVec 32 := Scalar.muli arg1 c1_i32_56
  let c0_i32_57 : BitVec 32 := 0#32
  let v168 : BitVec 32 := Scalar.addi v167 c0_i32_57
  let v169 : Index := Scalar.indexCast v168
  ![18, v169.toNat]
def k0_off20 (i : grid0.Coords) : Fin 2 → Nat :=
  let c19 : Index := 19#32
  let arg1 : BitVec 32 := BitVec.ofNat 32 (i 1).val
  let c1_i32_59 : BitVec 32 := 1#32
  let v176 : BitVec 32 := Scalar.muli arg1 c1_i32_59
  let c0_i32_60 : BitVec 32 := 0#32
  let v177 : BitVec 32 := Scalar.addi v176 c0_i32_60
  let v178 : Index := Scalar.indexCast v177
  ![19, v178.toNat]
def k0_off21 (i : grid0.Coords) : Fin 2 → Nat :=
  let c20 : Index := 20#32
  let arg1 : BitVec 32 := BitVec.ofNat 32 (i 1).val
  let c1_i32_62 : BitVec 32 := 1#32
  let v185 : BitVec 32 := Scalar.muli arg1 c1_i32_62
  let c0_i32_63 : BitVec 32 := 0#32
  let v186 : BitVec 32 := Scalar.addi v185 c0_i32_63
  let v187 : Index := Scalar.indexCast v186
  ![20, v187.toNat]
def k0_off22 (i : grid0.Coords) : Fin 2 → Nat :=
  let c21 : Index := 21#32
  let arg1 : BitVec 32 := BitVec.ofNat 32 (i 1).val
  let c1_i32_65 : BitVec 32 := 1#32
  let v194 : BitVec 32 := Scalar.muli arg1 c1_i32_65
  let c0_i32_66 : BitVec 32 := 0#32
  let v195 : BitVec 32 := Scalar.addi v194 c0_i32_66
  let v196 : Index := Scalar.indexCast v195
  ![21, v196.toNat]
def k0_off23 (i : grid0.Coords) : Fin 2 → Nat :=
  let c22 : Index := 22#32
  let arg1 : BitVec 32 := BitVec.ofNat 32 (i 1).val
  let c1_i32_68 : BitVec 32 := 1#32
  let v203 : BitVec 32 := Scalar.muli arg1 c1_i32_68
  let c0_i32_69 : BitVec 32 := 0#32
  let v204 : BitVec 32 := Scalar.addi v203 c0_i32_69
  let v205 : Index := Scalar.indexCast v204
  ![22, v205.toNat]
def k0_off24 (i : grid0.Coords) : Fin 2 → Nat :=
  let c23 : Index := 23#32
  let arg1 : BitVec 32 := BitVec.ofNat 32 (i 1).val
  let c1_i32_71 : BitVec 32 := 1#32
  let v212 : BitVec 32 := Scalar.muli arg1 c1_i32_71
  let c0_i32_72 : BitVec 32 := 0#32
  let v213 : BitVec 32 := Scalar.addi v212 c0_i32_72
  let v214 : Index := Scalar.indexCast v213
  ![23, v214.toNat]
def k0_off25 (i : grid0.Coords) : Fin 2 → Nat :=
  let c24 : Index := 24#32
  let arg1 : BitVec 32 := BitVec.ofNat 32 (i 1).val
  let c1_i32_74 : BitVec 32 := 1#32
  let v221 : BitVec 32 := Scalar.muli arg1 c1_i32_74
  let c0_i32_75 : BitVec 32 := 0#32
  let v222 : BitVec 32 := Scalar.addi v221 c0_i32_75
  let v223 : Index := Scalar.indexCast v222
  ![24, v223.toNat]
def k0_off26 (i : grid0.Coords) : Fin 2 → Nat :=
  let c25 : Index := 25#32
  let arg1 : BitVec 32 := BitVec.ofNat 32 (i 1).val
  let c1_i32_77 : BitVec 32 := 1#32
  let v230 : BitVec 32 := Scalar.muli arg1 c1_i32_77
  let c0_i32_78 : BitVec 32 := 0#32
  let v231 : BitVec 32 := Scalar.addi v230 c0_i32_78
  let v232 : Index := Scalar.indexCast v231
  ![25, v232.toNat]
def k0_off27 (i : grid0.Coords) : Fin 2 → Nat :=
  let c26 : Index := 26#32
  let arg1 : BitVec 32 := BitVec.ofNat 32 (i 1).val
  let c1_i32_80 : BitVec 32 := 1#32
  let v239 : BitVec 32 := Scalar.muli arg1 c1_i32_80
  let c0_i32_81 : BitVec 32 := 0#32
  let v240 : BitVec 32 := Scalar.addi v239 c0_i32_81
  let v241 : Index := Scalar.indexCast v240
  ![26, v241.toNat]
def k0_off28 (i : grid0.Coords) : Fin 2 → Nat :=
  let c27 : Index := 27#32
  let arg1 : BitVec 32 := BitVec.ofNat 32 (i 1).val
  let c1_i32_83 : BitVec 32 := 1#32
  let v248 : BitVec 32 := Scalar.muli arg1 c1_i32_83
  let c0_i32_84 : BitVec 32 := 0#32
  let v249 : BitVec 32 := Scalar.addi v248 c0_i32_84
  let v250 : Index := Scalar.indexCast v249
  ![27, v250.toNat]
def k0_off29 (i : grid0.Coords) : Fin 2 → Nat :=
  let c28 : Index := 28#32
  let arg1 : BitVec 32 := BitVec.ofNat 32 (i 1).val
  let c1_i32_86 : BitVec 32 := 1#32
  let v257 : BitVec 32 := Scalar.muli arg1 c1_i32_86
  let c0_i32_87 : BitVec 32 := 0#32
  let v258 : BitVec 32 := Scalar.addi v257 c0_i32_87
  let v259 : Index := Scalar.indexCast v258
  ![28, v259.toNat]
def k0_off30 (i : grid0.Coords) : Fin 2 → Nat :=
  let c29 : Index := 29#32
  let arg1 : BitVec 32 := BitVec.ofNat 32 (i 1).val
  let c1_i32_89 : BitVec 32 := 1#32
  let v266 : BitVec 32 := Scalar.muli arg1 c1_i32_89
  let c0_i32_90 : BitVec 32 := 0#32
  let v267 : BitVec 32 := Scalar.addi v266 c0_i32_90
  let v268 : Index := Scalar.indexCast v267
  ![29, v268.toNat]
def k0_off31 (i : grid0.Coords) : Fin 2 → Nat :=
  let c30 : Index := 30#32
  let arg1 : BitVec 32 := BitVec.ofNat 32 (i 1).val
  let c1_i32_92 : BitVec 32 := 1#32
  let v275 : BitVec 32 := Scalar.muli arg1 c1_i32_92
  let c0_i32_93 : BitVec 32 := 0#32
  let v276 : BitVec 32 := Scalar.addi v275 c0_i32_93
  let v277 : Index := Scalar.indexCast v276
  ![30, v277.toNat]
def k0_off32 (i : grid0.Coords) : Fin 2 → Nat :=
  let c31 : Index := 31#32
  let arg1 : BitVec 32 := BitVec.ofNat 32 (i 1).val
  let c1_i32_95 : BitVec 32 := 1#32
  let v284 : BitVec 32 := Scalar.muli arg1 c1_i32_95
  let c0_i32_96 : BitVec 32 := 0#32
  let v285 : BitVec 32 := Scalar.addi v284 c0_i32_96
  let v286 : Index := Scalar.indexCast v285
  ![31, v286.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg1.toNat, c0_i32_10.toNat, v26.toNat]

def cc0_transform_8 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_9 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, v26.toNat, arg1.toNat]

abbrev stage0_0 : Fin 2 → Memref sig .tc .vmem S1024x4096 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .smem S32x28 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .smem S32x28 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S6144x4096 : Shape := ⟨2, ![6144, 4096]⟩
abbrev S3x32x2048 : Shape := ⟨3, ![3, 32, 2048]⟩
abbrev S4096x3584 : Shape := ⟨2, ![4096, 3584]⟩
abbrev S32x28 : Shape := ⟨2, ![32, 28]⟩
abbrev S6144x3584 : Shape := ⟨2, ![6144, 3584]⟩
abbrev S3x28x1x2048 : Shape := ⟨4, ![3, 28, 1, 2048]⟩
abbrev S3x3584x2048 : Shape := ⟨3, ![3, 3584, 2048]⟩
abbrev S3x16x3584 : Shape := ⟨3, ![3, 16, 3584]⟩
abbrev S3x2048x32x128 : Shape := ⟨4, ![3, 2048, 32, 128]⟩
abbrev S3x2048x32 : Shape := ⟨3, ![3, 2048, 32]⟩
abbrev S3x2048x32x1 : Shape := ⟨4, ![3, 2048, 32, 1]⟩
abbrev S32x128x28x128 : Shape := ⟨4, ![32, 128, 28, 128]⟩
abbrev S32x1x28x1 : Shape := ⟨4, ![32, 1, 28, 1]⟩
abbrev S3x2048x28x128 : Shape := ⟨4, ![3, 2048, 28, 128]⟩
abbrev S3x2048x28 : Shape := ⟨3, ![3, 2048, 28]⟩
abbrev S1x1x1x252 : Shape := ⟨4, ![1, 1, 1, 252]⟩
abbrev S3x2048x28x1 : Shape := ⟨4, ![3, 2048, 28, 1]⟩
abbrev S3x2048x28x252 : Shape := ⟨4, ![3, 2048, 28, 252]⟩
abbrev S3x28x2048 : Shape := ⟨3, ![3, 28, 2048]⟩
abbrev S3x16x128x3584 : Shape := ⟨4, ![3, 16, 128, 3584]⟩
abbrev S3x16x3584x1 : Shape := ⟨4, ![3, 16, 3584, 1]⟩
abbrev S3x16x3584x252 : Shape := ⟨4, ![3, 16, 3584, 252]⟩
abbrev S3x16x1x3584 : Shape := ⟨4, ![3, 16, 1, 3584]⟩
abbrev S3x2048x3584 : Shape := ⟨3, ![3, 2048, 3584]⟩

abbrev nBuf : Space → Nat
  | .hbm => 10
  | .vmem => 10
  | .smem => 0
  | _ => 0

abbrev bufTy : (tb : Table) → Fin (tcTables nBuf tb) → BufTy
  | .hbm, ⟨0, _⟩ => ⟨S6144x4096, .fp8e4m3⟩
  | .hbm, ⟨1, _⟩ => ⟨S3x32x2048, .f32⟩
  | .hbm, ⟨2, _⟩ => ⟨S4096x3584, .fp8e4m3⟩
  | .hbm, ⟨3, _⟩ => ⟨S32x28, .f32⟩
  | .hbm, ⟨4, _⟩ => ⟨S4096x3584, .fp8e4m3⟩
  | .hbm, ⟨5, _⟩ => ⟨S32x28, .f32⟩
  | .hbm, ⟨6, _⟩ => ⟨S6144x3584, .fp8e4m3⟩
  | .hbm, ⟨7, _⟩ => ⟨S3x28x1x2048, .f32⟩
  | .hbm, ⟨8, _⟩ => ⟨S3x3584x2048, .fp8e4m3⟩
  | .hbm, ⟨9, _⟩ => ⟨S3x16x3584, .f32⟩
  | .local _ .vmem, ⟨0, _⟩ => ⟨S6144x4096, .fp8e4m3⟩
  | .local _ .vmem, ⟨1, _⟩ => ⟨S3x32x2048, .f32⟩
  | .local _ .vmem, ⟨2, _⟩ => ⟨S4096x3584, .fp8e4m3⟩
  | .local _ .vmem, ⟨3, _⟩ => ⟨S4096x3584, .fp8e4m3⟩
  | .local _ .vmem, ⟨4, _⟩ => ⟨S32x28, .f32⟩
  | .local _ .vmem, ⟨5, _⟩ => ⟨S32x28, .f32⟩
  | .local _ .vmem, ⟨6, _⟩ => ⟨S6144x3584, .fp8e4m3⟩
  | .local _ .vmem, ⟨7, _⟩ => ⟨S3x28x1x2048, .f32⟩
  | .local _ .vmem, ⟨8, _⟩ => ⟨S3x3584x2048, .fp8e4m3⟩
  | .local _ .vmem, ⟨9, _⟩ => ⟨S3x16x3584, .f32⟩
  | _, _ => ⟨S6144x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S6144x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x32x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x3584 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x28 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x28 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6144x3584 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x28x1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x3584x2048 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3x16x3584 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Down.lean ====
abbrev S6144x3584 : Shape := ⟨2, ![6144, 3584]⟩
abbrev S3x28x2048 : Shape := ⟨3, ![3, 28, 2048]⟩
abbrev S3x16x2048 : Shape := ⟨3, ![3, 16, 2048]⟩
abbrev S3x4x2048 : Shape := ⟨3, ![3, 4, 2048]⟩
abbrev S3584x4096 : Shape := ⟨2, ![3584, 4096]⟩
abbrev S28x32 : Shape := ⟨2, ![28, 32]⟩
abbrev S6144x128x128 : Shape := ⟨3, ![6144, 128, 128]⟩
abbrev S6144x4096 : Shape := ⟨2, ![6144, 4096]⟩
abbrev S1024x3584 : Shape := ⟨2, ![1024, 3584]⟩
abbrev S1x28x1024 : Shape := ⟨3, ![1, 28, 1024]⟩
abbrev S1x16x1024 : Shape := ⟨3, ![1, 16, 1024]⟩
abbrev S1x4x1024 : Shape := ⟨3, ![1, 4, 1024]⟩
abbrev S3584x256 : Shape := ⟨2, ![3584, 256]⟩
abbrev S1024x8x128 : Shape := ⟨3, ![1024, 8, 128]⟩
abbrev S1024x256 : Shape := ⟨2, ![1024, 256]⟩
abbrev S20x1024x128 : Shape := ⟨3, ![20, 1024, 128]⟩
abbrev S1x28x128 : Shape := ⟨3, ![1, 28, 128]⟩
abbrev S28x128 : Shape := ⟨2, ![28, 128]⟩
abbrev S100x128 : Shape := ⟨2, ![100, 128]⟩
abbrev S128x128 : Shape := ⟨2, ![128, 128]⟩
abbrev S128x3584 : Shape := ⟨2, ![128, 3584]⟩
abbrev S128x1 : Shape := ⟨2, ![128, 1]⟩
abbrev S1x16x128 : Shape := ⟨3, ![1, 16, 128]⟩
abbrev S16x128 : Shape := ⟨2, ![16, 128]⟩
abbrev S1x4x128 : Shape := ⟨3, ![1, 4, 128]⟩
abbrev S4x128 : Shape := ⟨2, ![4, 128]⟩
abbrev S24x128 : Shape := ⟨2, ![24, 128]⟩
abbrev S128x24 : Shape := ⟨2, ![128, 24]⟩
abbrev S1x128x128 : Shape := ⟨3, ![1, 128, 128]⟩
abbrev S1x1 : Shape := ⟨2, ![1, 1]⟩
abbrev S128x256 : Shape := ⟨2, ![128, 256]⟩
abbrev S1x8x128 : Shape := ⟨3, ![1, 8, 128]⟩
abbrev S8x128 : Shape := ⟨2, ![8, 128]⟩
abbrev S8x8x128 : Shape := ⟨3, ![8, 8, 128]⟩
abbrev S8x1x128 : Shape := ⟨3, ![8, 1, 128]⟩

abbrev nBuf : Space → Nat
  | .hbm => 9
  | .vmem => 18
  | .smem => 1
  | _ => 0

abbrev bufTy : (tb : Table) → Fin (tcTables nBuf tb) → BufTy
  | .hbm, ⟨0, _⟩ => ⟨S6144x3584, .fp8e4m3⟩
  | .hbm, ⟨1, _⟩ => ⟨S3x28x2048, .f32⟩
  | .hbm, ⟨2, _⟩ => ⟨S3x16x2048, .f32⟩
  | .hbm, ⟨3, _⟩ => ⟨S3x4x2048, .f32⟩
  | .hbm, ⟨4, _⟩ => ⟨S3584x4096, .fp8e4m3⟩
  | .hbm, ⟨5, _⟩ => ⟨S28x32, .f32⟩
  | .hbm, ⟨6, _⟩ => ⟨S6144x128x128, .bf16⟩
  | .hbm, ⟨7, _⟩ => ⟨S6144x128x128, .bf16⟩
  | .hbm, ⟨8, _⟩ => ⟨S6144x4096, .bf16⟩
  | .local _ .vmem, ⟨0, _⟩ => ⟨S1024x3584, .fp8e4m3⟩
  | .local _ .vmem, ⟨1, _⟩ => ⟨S1024x3584, .fp8e4m3⟩
  | .local _ .vmem, ⟨2, _⟩ => ⟨S1x28x1024, .f32⟩
  | .local _ .vmem, ⟨3, _⟩ => ⟨S1x28x1024, .f32⟩
  | .local _ .vmem, ⟨4, _⟩ => ⟨S1x16x1024, .f32⟩
  | .local _ .vmem, ⟨5, _⟩ => ⟨S1x16x1024, .f32⟩
  | .local _ .vmem, ⟨6, _⟩ => ⟨S1x4x1024, .f32⟩
  | .local _ .vmem, ⟨7, _⟩ => ⟨S1x4x1024, .f32⟩
  | .local _ .vmem, ⟨8, _⟩ => ⟨S3584x256, .fp8e4m3⟩
  | .local _ .vmem, ⟨9, _⟩ => ⟨S3584x256, .fp8e4m3⟩
  | .local _ .vmem, ⟨10, _⟩ => ⟨S1024x8x128, .bf16⟩
  | .local _ .vmem, ⟨11, _⟩ => ⟨S1024x8x128, .bf16⟩
  | .local _ .vmem, ⟨12, _⟩ => ⟨S1024x8x128, .bf16⟩
  | .local _ .vmem, ⟨13, _⟩ => ⟨S1024x8x128, .bf16⟩
  | .local _ .vmem, ⟨14, _⟩ => ⟨S1024x256, .bf16⟩
  | .local _ .vmem, ⟨15, _⟩ => ⟨S1024x256, .bf16⟩
  | .local _ .vmem, ⟨16, _⟩ => ⟨S1024x3584, .bf16⟩
  | .local _ .vmem, ⟨17, _⟩ => ⟨S20x1024x128, .f32⟩
  | .local _ .smem, ⟨0, _⟩ => ⟨S28x32, .f32⟩
  | _, _ => ⟨S6144x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![6, 16], ![false, false]⟩

def k0_off1 (i : grid0.Coords) (c0_i32_2 : BitVec 32) : Fin 2 → Nat :=
  let c0_3 : Index := 0#32
  let arg1 : BitVec 32 := BitVec.ofNat 32 (i 1).val
  let c2_i32 : BitVec 32 := 2#32
  let v5 : BitVec 32 := Scalar.muli arg1 c2_i32
  let v6 : BitVec 32 := Scalar.addi v5 c0_i32_2
  let v7 : Index := Scalar.indexCast v6
  ![0, v7.toNat]
def k0_off2 (i : grid0.Coords) (c0_i32_10 : BitVec 32) : Fin 2 → Nat :=
  let c1 : Index := 1#32
  let arg1 : BitVec 32 := BitVec.ofNat 32 (i 1).val
  let c2_i32_9 : BitVec 32 := 2#32
  let v24 : BitVec 32 := Scalar.muli arg1 c2_i32_9
  let v25 : BitVec 32 := Scalar.addi v24 c0_i32_10
  let v26 : Index := Scalar.indexCast v25
  ![1, v26.toNat]
def k0_off3 (i : grid0.Coords) (c0_i32_18 : BitVec 32) : Fin 2 → Nat :=
  let c2 : Index := 2#32
  let arg1 : BitVec 32 := BitVec.ofNat 32 (i 1).val
  let c2_i32_17 : BitVec 32 := 2#32
  let v43 : BitVec 32 := Scalar.muli arg1 c2_i32_17
  let v44 : BitVec 32 := Scalar.addi v43 c0_i32_18
  let v45 : Index := Scalar.indexCast v44
  ![2, v45.toNat]
def k0_off4 (i : grid0.Coords) (c0_i32_26 : BitVec 32) : Fin 2 → Nat :=
  let c3 : Index := 3#32
  let arg1 : BitVec 32 := BitVec.ofNat 32 (i 1).val
  let c2_i32_25 : BitVec 32 := 2#32
  let v62 : BitVec 32 := Scalar.muli arg1 c2_i32_25
  let v63 : BitVec 32 := Scalar.addi v62 c0_i32_26
  let v64 : Index := Scalar.indexCast v63
  ![3, v64.toNat]
def k0_off5 (i : grid0.Coords) (c0_i32_34 : BitVec 32) : Fin 2 → Nat :=
  let c4 : Index := 4#32
  let arg1 : BitVec 32 := BitVec.ofNat 32 (i 1).val
  let c2_i32_33 : BitVec 32 := 2#32
  let v81 : BitVec 32 := Scalar.muli arg1 c2_i32_33
  let v82 : BitVec 32 := Scalar.addi v81 c0_i32_34
  let v83 : Index := Scalar.indexCast v82
  ![4, v83.toNat]
def k0_off6 (i : grid0.Coords) (c0_i32_42 : BitVec 32) : Fin 2 → Nat :=
  let c5 : Index := 5#32
  let arg1 : BitVec 32 := BitVec.ofNat 32 (i 1).val
  let c2_i32_41 : BitVec 32 := 2#32
  let v100 : BitVec 32 := Scalar.muli arg1 c2_i32_41
  let v101 : BitVec 32 := Scalar.addi v100 c0_i32_42
  let v102 : Index := Scalar.indexCast v101
  ![5, v102.toNat]
def k0_off7 (i : grid0.Coords) (c0_i32_50 : BitVec 32) : Fin 2 → Nat :=
  let c6 : Index := 6#32
  let arg1 : BitVec 32 := BitVec.ofNat 32 (i 1).val
  let c2_i32_49 : BitVec 32 := 2#32
  let v119 : BitVec 32 := Scalar.muli arg1 c2_i32_49
  let v120 : BitVec 32 := Scalar.addi v119 c0_i32_50
  let v121 : Index := Scalar.indexCast v120
  ![6, v121.toNat]
def k0_off8 (i : grid0.Coords) (c0_i32_58 : BitVec 32) : Fin 2 → Nat :=
  let c7 : Index := 7#32
  let arg1 : BitVec 32 := BitVec.ofNat 32 (i 1).val
  let c2_i32_57 : BitVec 32 := 2#32
  let v138 : BitVec 32 := Scalar.muli arg1 c2_i32_57
  let v139 : BitVec 32 := Scalar.addi v138 c0_i32_58
  let v140 : Index := Scalar.indexCast v139
  ![7, v140.toNat]
def k0_off9 (i : grid0.Coords) (c0_i32_66 : BitVec 32) : Fin 2 → Nat :=
  let c8 : Index := 8#32
  let arg1 : BitVec 32 := BitVec.ofNat 32 (i 1).val
  let c2_i32_65 : BitVec 32 := 2#32
  let v157 : BitVec 32 := Scalar.muli arg1 c2_i32_65
  let v158 : BitVec 32 := Scalar.addi v157 c0_i32_66
  let v159 : Index := Scalar.indexCast v158
  ![8, v159.toNat]
def k0_off10 (i : grid0.Coords) (c0_i32_74 : BitVec 32) : Fin 2 → Nat :=
  let c9 : Index := 9#32
  let arg1 : BitVec 32 := BitVec.ofNat 32 (i 1).val
  let c2_i32_73 : BitVec 32 := 2#32
  let v176 : BitVec 32 := Scalar.muli arg1 c2_i32_73
  let v177 : BitVec 32 := Scalar.addi v176 c0_i32_74
  let v178 : Index := Scalar.indexCast v177
  ![9, v178.toNat]
def k0_off11 (i : grid0.Coords) (c0_i32_82 : BitVec 32) : Fin 2 → Nat :=
  let c10 : Index := 10#32
  let arg1 : BitVec 32 := BitVec.ofNat 32 (i 1).val
  let c2_i32_81 : BitVec 32 := 2#32
  let v195 : BitVec 32 := Scalar.muli arg1 c2_i32_81
  let v196 : BitVec 32 := Scalar.addi v195 c0_i32_82
  let v197 : Index := Scalar.indexCast v196
  ![10, v197.toNat]
def k0_off12 (i : grid0.Coords) (c0_i32_90 : BitVec 32) : Fin 2 → Nat :=
  let c11 : Index := 11#32
  let arg1 : BitVec 32 := BitVec.ofNat 32 (i 1).val
  let c2_i32_89 : BitVec 32 := 2#32
  let v214 : BitVec 32 := Scalar.muli arg1 c2_i32_89
  let v215 : BitVec 32 := Scalar.addi v214 c0_i32_90
  let v216 : Index := Scalar.indexCast v215
  ![11, v216.toNat]
def k0_off13 (i : grid0.Coords) (c0_i32_98 : BitVec 32) : Fin 2 → Nat :=
  let c12 : Index := 12#32
  let arg1 : BitVec 32 := BitVec.ofNat 32 (i 1).val
  let c2_i32_97 : BitVec 32 := 2#32
  let v233 : BitVec 32 := Scalar.muli arg1 c2_i32_97
  let v234 : BitVec 32 := Scalar.addi v233 c0_i32_98
  let v235 : Index := Scalar.indexCast v234
  ![12, v235.toNat]
def k0_off14 (i : grid0.Coords) (c0_i32_106 : BitVec 32) : Fin 2 → Nat :=
  let c13 : Index := 13#32
  let arg1 : BitVec 32 := BitVec.ofNat 32 (i 1).val
  let c2_i32_105 : BitVec 32 := 2#32
  let v252 : BitVec 32 := Scalar.muli arg1 c2_i32_105
  let v253 : BitVec 32 := Scalar.addi v252 c0_i32_106
  let v254 : Index := Scalar.indexCast v253
  ![13, v254.toNat]
def k0_off15 (i : grid0.Coords) (c0_i32_114 : BitVec 32) : Fin 2 → Nat :=
  let c14 : Index := 14#32
  let arg1 : BitVec 32 := BitVec.ofNat 32 (i 1).val
  let c2_i32_113 : BitVec 32 := 2#32
  let v271 : BitVec 32 := Scalar.muli arg1 c2_i32_113
  let v272 : BitVec 32 := Scalar.addi v271 c0_i32_114
  let v273 : Index := Scalar.indexCast v272
  ![14, v273.toNat]
def k0_off16 (i : grid0.Coords) (c0_i32_122 : BitVec 32) : Fin 2 → Nat :=
  let c15 : Index := 15#32
  let arg1 : BitVec 32 := BitVec.ofNat 32 (i 1).val
  let c2_i32_121 : BitVec 32 := 2#32
  let v290 : BitVec 32 := Scalar.muli arg1 c2_i32_121
  let v291 : BitVec 32 := Scalar.addi v290 c0_i32_122
  let v292 : Index := Scalar.indexCast v291
  ![15, v292.toNat]
def k0_off17 (i : grid0.Coords) (c0_i32_130 : BitVec 32) : Fin 2 → Nat :=
  let c16 : Index := 16#32
  let arg1 : BitVec 32 := BitVec.ofNat 32 (i 1).val
  let c2_i32_129 : BitVec 32 := 2#32
  let v309 : BitVec 32 := Scalar.muli arg1 c2_i32_129
  let v310 : BitVec 32 := Scalar.addi v309 c0_i32_130
  let v311 : Index := Scalar.indexCast v310
  ![16, v311.toNat]
def k0_off18 (i : grid0.Coords) (c0_i32_138 : BitVec 32) : Fin 2 → Nat :=
  let c17 : Index := 17#32
  let arg1 : BitVec 32 := BitVec.ofNat 32 (i 1).val
  let c2_i32_137 : BitVec 32 := 2#32
  let v328 : BitVec 32 := Scalar.muli arg1 c2_i32_137
  let v329 : BitVec 32 := Scalar.addi v328 c0_i32_138
  let v330 : Index := Scalar.indexCast v329
  ![17, v330.toNat]
def k0_off19 (i : grid0.Coords) (c0_i32_146 : BitVec 32) : Fin 2 → Nat :=
  let c18 : Index := 18#32
  let arg1 : BitVec 32 := BitVec.ofNat 32 (i 1).val
  let c2_i32_145 : BitVec 32 := 2#32
  let v347 : BitVec 32 := Scalar.muli arg1 c2_i32_145
  let v348 : BitVec 32 := Scalar.addi v347 c0_i32_146
  let v349 : Index := Scalar.indexCast v348
  ![18, v349.toNat]
def k0_off20 (i : grid0.Coords) (c0_i32_154 : BitVec 32) : Fin 2 → Nat :=
  let c19 : Index := 19#32
  let arg1 : BitVec 32 := BitVec.ofNat 32 (i 1).val
  let c2_i32_153 : BitVec 32 := 2#32
  let v366 : BitVec 32 := Scalar.muli arg1 c2_i32_153
  let v367 : BitVec 32 := Scalar.addi v366 c0_i32_154
  let v368 : Index := Scalar.indexCast v367
  ![19, v368.toNat]
def k0_off21 (i : grid0.Coords) (c0_i32_162 : BitVec 32) : Fin 2 → Nat :=
  let c20 : Index := 20#32
  let arg1 : BitVec 32 := BitVec.ofNat 32 (i 1).val
  let c2_i32_161 : BitVec 32 := 2#32
  let v385 : BitVec 32 := Scalar.muli arg1 c2_i32_161
  let v386 : BitVec 32 := Scalar.addi v385 c0_i32_162
  let v387 : Index := Scalar.indexCast v386
  ![20, v387.toNat]
def k0_off22 (i : grid0.Coords) (c0_i32_170 : BitVec 32) : Fin 2 → Nat :=
  let c21 : Index := 21#32
  let arg1 : BitVec 32 := BitVec.ofNat 32 (i 1).val
  let c2_i32_169 : BitVec 32 := 2#32
  let v404 : BitVec 32 := Scalar.muli arg1 c2_i32_169
  let v405 : BitVec 32 := Scalar.addi v404 c0_i32_170
  let v406 : Index := Scalar.indexCast v405
  ![21, v406.toNat]
def k0_off23 (i : grid0.Coords) (c0_i32_178 : BitVec 32) : Fin 2 → Nat :=
  let c22 : Index := 22#32
  let arg1 : BitVec 32 := BitVec.ofNat 32 (i 1).val
  let c2_i32_177 : BitVec 32 := 2#32
  let v423 : BitVec 32 := Scalar.muli arg1 c2_i32_177
  let v424 : BitVec 32 := Scalar.addi v423 c0_i32_178
  let v425 : Index := Scalar.indexCast v424
  ![22, v425.toNat]
def k0_off24 (i : grid0.Coords) (c0_i32_186 : BitVec 32) : Fin 2 → Nat :=
  let c23 : Index := 23#32
  let arg1 : BitVec 32 := BitVec.ofNat 32 (i 1).val
  let c2_i32_185 : BitVec 32 := 2#32
  let v442 : BitVec 32 := Scalar.muli arg1 c2_i32_185
  let v443 : BitVec 32 := Scalar.addi v442 c0_i32_186
  let v444 : Index := Scalar.indexCast v443
  ![23, v444.toNat]
def k0_off25 (i : grid0.Coords) (c0_i32_194 : BitVec 32) : Fin 2 → Nat :=
  let c24 : Index := 24#32
  let arg1 : BitVec 32 := BitVec.ofNat 32 (i 1).val
  let c2_i32_193 : BitVec 32 := 2#32
  let v461 : BitVec 32 := Scalar.muli arg1 c2_i32_193
  let v462 : BitVec 32 := Scalar.addi v461 c0_i32_194
  let v463 : Index := Scalar.indexCast v462
  ![24, v463.toNat]
def k0_off26 (i : grid0.Coords) (c0_i32_202 : BitVec 32) : Fin 2 → Nat :=
  let c25 : Index := 25#32
  let arg1 : BitVec 32 := BitVec.ofNat 32 (i 1).val
  let c2_i32_201 : BitVec 32 := 2#32
  let v480 : BitVec 32 := Scalar.muli arg1 c2_i32_201
  let v481 : BitVec 32 := Scalar.addi v480 c0_i32_202
  let v482 : Index := Scalar.indexCast v481
  ![25, v482.toNat]
def k0_off27 (i : grid0.Coords) (c0_i32_210 : BitVec 32) : Fin 2 → Nat :=
  let c26 : Index := 26#32
  let arg1 : BitVec 32 := BitVec.ofNat 32 (i 1).val
  let c2_i32_209 : BitVec 32 := 2#32
  let v499 : BitVec 32 := Scalar.muli arg1 c2_i32_209
  let v500 : BitVec 32 := Scalar.addi v499 c0_i32_210
  let v501 : Index := Scalar.indexCast v500
  ![26, v501.toNat]
def k0_off28 (i : grid0.Coords) (c0_i32_218 : BitVec 32) : Fin 2 → Nat :=
  let c27 : Index := 27#32
  let arg1 : BitVec 32 := BitVec.ofNat 32 (i 1).val
  let c2_i32_217 : BitVec 32 := 2#32
  let v518 : BitVec 32 := Scalar.muli arg1 c2_i32_217
  let v519 : BitVec 32 := Scalar.addi v518 c0_i32_218
  let v520 : Index := Scalar.indexCast v519
  ![27, v520.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x3584 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x28x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3584x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .smem S28x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x8x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x8x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== DownReferenceIdeal.lean ====
abbrev S6144x3584 : Shape := ⟨2, ![6144, 3584]⟩
abbrev S3x28x2048 : Shape := ⟨3, ![3, 28, 2048]⟩
abbrev S3x16x2048 : Shape := ⟨3, ![3, 16, 2048]⟩
abbrev S3x4x2048 : Shape := ⟨3, ![3, 4, 2048]⟩
abbrev S3584x4096 : Shape := ⟨2, ![3584, 4096]⟩
abbrev S28x32 : Shape := ⟨2, ![28, 32]⟩
abbrev S6144x128x128 : Shape := ⟨3, ![6144, 128, 128]⟩
abbrev S6144x4096 : Shape := ⟨2, ![6144, 4096]⟩
abbrev S3x2048x28x128 : Shape := ⟨4, ![3, 2048, 28, 128]⟩
abbrev S3x2048x28 : Shape := ⟨3, ![3, 2048, 28]⟩
abbrev S3x2048x28x1 : Shape := ⟨4, ![3, 2048, 28, 1]⟩
abbrev S28x128x32x128 : Shape := ⟨4, ![28, 128, 32, 128]⟩
abbrev S28x1x32x1 : Shape := ⟨4, ![28, 1, 32, 1]⟩
abbrev S6144x32x4x128 : Shape := ⟨4, ![6144, 32, 4, 128]⟩
abbrev S3x2048x16 : Shape := ⟨3, ![3, 2048, 16]⟩
abbrev S6144x4x4 : Shape := ⟨3, ![6144, 4, 4]⟩
abbrev S3x2048x4 : Shape := ⟨3, ![3, 2048, 4]⟩
abbrev S6144x1x4x1 : Shape := ⟨4, ![6144, 1, 4, 1]⟩
abbrev S6144x4x1 : Shape := ⟨3, ![6144, 4, 1]⟩
abbrev S6144x4 : Shape := ⟨2, ![6144, 4]⟩
abbrev S6144x32x1x128 : Shape := ⟨4, ![6144, 32, 1, 128]⟩

abbrev nBuf : Space → Nat
  | .hbm => 9
  | .vmem => 9
  | .smem => 0
  | _ => 0

abbrev bufTy : (tb : Table) → Fin (tcTables nBuf tb) → BufTy
  | .hbm, ⟨0, _⟩ => ⟨S6144x3584, .fp8e4m3⟩
  | .hbm, ⟨1, _⟩ => ⟨S3x28x2048, .f32⟩
  | .hbm, ⟨2, _⟩ => ⟨S3x16x2048, .f32⟩
  | .hbm, ⟨3, _⟩ => ⟨S3x4x2048, .f32⟩
  | .hbm, ⟨4, _⟩ => ⟨S3584x4096, .fp8e4m3⟩
  | .hbm, ⟨5, _⟩ => ⟨S28x32, .f32⟩
  | .hbm, ⟨6, _⟩ => ⟨S6144x128x128, .bf16⟩
  | .hbm, ⟨7, _⟩ => ⟨S6144x128x128, .bf16⟩
  | .hbm, ⟨8, _⟩ => ⟨S6144x4096, .bf16⟩
  | .local _ .vmem, ⟨0, _⟩ => ⟨S6144x3584, .fp8e4m3⟩
  | .local _ .vmem, ⟨1, _⟩ => ⟨S3x28x2048, .f32⟩
  | .local _ .vmem, ⟨2, _⟩ => ⟨S3x16x2048, .f32⟩
  | .local _ .vmem, ⟨3, _⟩ => ⟨S3x4x2048, .f32⟩
  | .local _ .vmem, ⟨4, _⟩ => ⟨S3584x4096, .fp8e4m3⟩
  | .local _ .vmem, ⟨5, _⟩ => ⟨S28x32, .f32⟩
  | .local _ .vmem, ⟨6, _⟩ => ⟨S6144x128x128, .bf16⟩
  | .local _ .vmem, ⟨7, _⟩ => ⟨S6144x128x128, .bf16⟩
  | .local _ .vmem, ⟨8, _⟩ => ⟨S6144x4096, .bf16⟩
  | _, _ => ⟨S6144x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S6144x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x28x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x16x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3584x4096 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S28x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6144x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6144x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6144x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Scale.lean ====
/-
  The scale of a block, as the kernel finds it and as the reference states it.

  The kernel finds the exponent field of `t = min(peak / 448, 2^125)` by an eight-step binary search: it compares the float
  with exponent field `n` (and significand 0) with `t`. The reference takes the least power of two above `peak / 448` from a
  table of powers. Both are the same power of two, and the kernel's other field is its inverse (`field_scale`,
  `field_inv`), for every extended real `peak / 448`.
-/
module

public import Idealize.ShloMosaic.Lib.Pointwise

@[expose] public section

noncomputable section

namespace Cert.Scale

open Idealize.ShloMosaic

/-- The word with exponent field `n` and significand 0. -/
def word (n : ℕ) : BitVec 32 := BitVec.ofNat 32 (n * 8388608)

/-- What that word denotes as a float. -/
def val (n : ℕ) : EReal := Ideal.ofBits .f32 (word n)

/-- One step of the search: take the bit when the float with it set is not above `t`. -/
def step (t : EReal) (w v : BitVec 32) : BitVec 32 := if Ideal.ofBits .f32 (v + w) ≤ t then v + w else v

/-- The search over the eight bits of the exponent field. -/
def field (t : EReal) : BitVec 32 :=
  step t 8388608#32 (step t 16777216#32 (step t 33554432#32 (step t 67108864#32
    (step t 134217728#32 (step t 268435456#32 (step t 536870912#32 (step t 1073741824#32 0#32)))))))

theorem val_zero : val 0 = 0 := by simp [val, word, Ideal.ofBits, Ideal.ieee]

theorem val_top : val 255 = ⊤ := by simp [val, word, Ideal.ofBits, Ideal.ieee]

theorem word_fields : ∀ n : Fin 256, ((word n).extractLsb' 23 8).toNat = n ∧ ((word n).extractLsb' 0 23).toNat = 0 ∧
    ((word n).extractLsb' 31 1 == 1#1) = false ∧ (word n = 0#32 ↔ n.val = 0) := by
  decide +kernel

theorem word_exp (n : ℕ) (h : n < 256) : ((word n).extractLsb' 23 8).toNat = n := (word_fields ⟨n, h⟩).1

theorem word_frac (n : ℕ) (h : n < 256) : ((word n).extractLsb' 0 23).toNat = 0 := (word_fields ⟨n, h⟩).2.1

theorem word_sign (n : ℕ) (h : n < 256) : ((word n).extractLsb' 31 1 == 1#1) = false := (word_fields ⟨n, h⟩).2.2.1

theorem word_eq_zero (n : ℕ) (h : n < 256) : word n = 0#32 ↔ n = 0 := (word_fields ⟨n, h⟩).2.2.2

theorem word_add (n k : ℕ) : word n + word k = word (n + k) := by
  unfold word
  rw [Nat.add_mul, BitVec.ofNat_add]

theorem word_sub : ∀ n : Fin 254, 2122317824#32 - word n = word (253 - n) := by decide +kernel

theorem val_normal (n : ℕ) (h0 : 0 < n) (h : n < 255) : val n = (((2 : ℝ) ^ ((n : ℤ) - 127) : ℝ) : EReal) := by
  have h' : n < 256 := by omega
  simp only [val, Ideal.ofBits, Ideal.ieee, word_exp n h', word_frac n h', word_sign n h']
  rw [if_neg (by norm_num; omega), if_neg (by omega)]
  congr 1
  have e : (n : ℤ) - 127 = 23 + ((n : ℤ) - 127 - 23) := by ring
  rw [e, zpow_add₀ (by norm_num)]
  norm_num

theorem pow_le {a b : ℤ} (h : a ≤ b) : ((2 ^ a : ℝ) : EReal) ≤ ((2 ^ b : ℝ) : EReal) :=
  EReal.coe_le_coe_iff.2 (zpow_le_zpow_right₀ (by norm_num) h)

theorem pow_lt {a b : ℤ} (h : ((2 ^ a : ℝ) : EReal) < ((2 ^ b : ℝ) : EReal)) : a < b :=
  (zpow_lt_zpow_iff_right₀ (by norm_num)).1 (EReal.coe_lt_coe_iff.1 h)

theorem val_le {n k : ℕ} (h : n ≤ k) (hk : k < 256) : val n ≤ val k := by
  rcases Nat.lt_or_ge k 255 with h1 | h1
  · rcases Nat.eq_zero_or_pos n with rfl | h0
    · rw [val_zero]
      rcases Nat.eq_zero_or_pos k with rfl | hk0
      · rw [val_zero]
      · rw [val_normal k hk0 h1]; exact EReal.coe_nonneg.2 (zpow_pos (by norm_num) _).le
    · rw [val_normal n h0 (by omega), val_normal k (by omega) h1]
      exact pow_le (by omega)
  · obtain rfl : k = 255 := by omega
    rw [val_top]; exact le_top

/-- The search over natural numbers. -/
def stepN (t : EReal) (b n : ℕ) : ℕ := if val (n + b) ≤ t then n + b else n

theorem step_word (t : EReal) (b n : ℕ) : step t (word b) (word n) = word (stepN t b n) := by
  have e := word_add n b
  unfold step stepN
  rw [e]
  by_cases h : val (n + b) ≤ t
  · rw [if_pos h, if_pos (show Ideal.ofBits .f32 (word (n + b)) ≤ t from h)]
  · rw [if_neg h, if_neg (show ¬ Ideal.ofBits .f32 (word (n + b)) ≤ t from h)]

/-- The number the search ends at. -/
def fieldN (t : EReal) : ℕ :=
  stepN t 1 (stepN t 2 (stepN t 4 (stepN t 8 (stepN t 16 (stepN t 32 (stepN t 64 (stepN t 128 0)))))))

theorem field_eq (t : EReal) : field t = word (fieldN t) := by
  unfold field fieldN
  simp only [← step_word]
  rfl

/-- A step with twice the bit's weight of room left keeps the search's invariant. -/
theorem stepN_spec (t : EReal) (b n : ℕ) (hn : n = 0 ∨ val n ≤ t) (hb : n + 2 * b < 256 → ¬ val (n + 2 * b) ≤ t) :
    (stepN t b n = 0 ∨ val (stepN t b n) ≤ t) ∧ (stepN t b n + b < 256 → ¬ val (stepN t b n + b) ≤ t) ∧
      stepN t b n ≤ n + b := by
  unfold stepN
  by_cases h : val (n + b) ≤ t
  · rw [if_pos h]
    exact ⟨.inr h, by rwa [show n + b + b = n + 2 * b by ring], le_refl _⟩
  · rw [if_neg h]
    exact ⟨hn, fun _ => h, by omega⟩

/-- The search ends at the greatest field whose float is not above `t`. -/
theorem fieldN_spec (t : EReal) :
    (fieldN t = 0 ∨ val (fieldN t) ≤ t) ∧ (fieldN t + 1 < 256 → ¬ val (fieldN t + 1) ≤ t) ∧ fieldN t ≤ 255 := by
  have h1 := stepN_spec t 128 0 (.inl rfl) (by omega)
  have h2 := stepN_spec t 64 _ h1.1 h1.2.1
  have h3 := stepN_spec t 32 _ h2.1 h2.2.1
  have h4 := stepN_spec t 16 _ h3.1 h3.2.1
  have h5 := stepN_spec t 8 _ h4.1 h4.2.1
  have h6 := stepN_spec t 4 _ h5.1 h5.2.1
  have h7 := stepN_spec t 2 _ h6.1 h6.2.1
  have h8 := stepN_spec t 1 _ h7.1 h7.2.1
  exact ⟨h8.1, h8.2.1, by unfold fieldN; omega⟩

/-- `2^125`, the kernel's bound on `t`. -/
def bound : EReal := Ideal.ofBits .f32 0x7E000000#32

theorem bound_eq : bound = val 252 := rfl

theorem fieldN_le (t : EReal) : fieldN (min t bound) ≤ 252 := by
  by_contra h
  have hs := fieldN_spec (min t bound)
  rcases hs.1 with h0 | h0
  · omega
  · have h1 : val 253 ≤ val 252 :=
      (val_le (show 253 ≤ fieldN (min t bound) by omega) (by omega)).trans (h0.trans (min_le_right _ _))
    rw [val_normal 253 (by omega) (by omega), val_normal 252 (by omega) (by omega)] at h1
    have h2 : ((2 : ℝ) ^ ((253 : ℕ) - 127 : ℤ)) ≤ (2 : ℝ) ^ ((252 : ℕ) - 127 : ℤ) := by exact_mod_cast h1
    rw [zpow_le_zpow_iff_right₀ (by norm_num)] at h2
    omega

/-- The reference's table entry: the power when it is above `t`, the greatest power otherwise. -/
def entry (t : EReal) (x : Fin 252) : EReal :=
  if t < Ideal.exp2 (((x : ℕ) : ℝ) - 125 : ℝ) then Ideal.exp2 (((x : ℕ) : ℝ) - 125 : ℝ) else Ideal.ofBits .f32 0x7E800000#32

/-- The reference's scale of `t = peak / 448`. -/
def scale (t : EReal) : EReal :=
  if t < Ideal.ofBits .f32 0x00800000#32 then 1 else Finset.univ.fold min (Ideal.ofBits .f32 0x7F800000#32) (entry t)

theorem exp2_eq (x : ℕ) : Ideal.exp2 (((x : ℝ) - 125 : ℝ) : EReal) = (((2 : ℝ) ^ ((x : ℤ) - 125) : ℝ) : EReal) := by
  show ((Real.rpow 2 ((x : ℝ) - 125) : ℝ) : EReal) = _
  congr 1
  rw [← Real.rpow_intCast]
  push_cast
  rfl

theorem cap_eq : Ideal.ofBits .f32 0x7E800000#32 = (((2 : ℝ) ^ (126 : ℤ) : ℝ) : EReal) := by
  have := val_normal 253 (by omega) (by omega)
  rw [show val 253 = Ideal.ofBits .f32 0x7E800000#32 from rfl] at this
  rw [this]; norm_num

theorem scale_small (t : EReal) (h : fieldN (min t bound) = 0) : scale t = 1 := by
  have hs := (fieldN_spec (min t bound)).2.1 (by omega)
  rw [h] at hs
  unfold scale
  rw [if_pos]
  show t < val 1
  have h1 : min t bound < val 1 := lt_of_not_ge hs
  rcases min_lt_iff.1 h1 with h2 | h2
  · exact h2
  · exact absurd h2 (not_lt.2 (by rw [bound_eq]; exact val_le (by omega) (by omega)))

theorem scale_normal (t : EReal) (h : fieldN (min t bound) ≠ 0) : scale t = val (fieldN (min t bound) + 1) := by
  obtain ⟨n, hn⟩ : ∃ n, fieldN (min t bound) = n := ⟨_, rfl⟩
  have hle := fieldN_le t
  have hs := fieldN_spec (min t bound)
  rw [hn] at hs h hle ⊢
  have hlow : val n ≤ t := (hs.1.resolve_left h).trans (min_le_left _ _)
  have hup : n ≤ 251 → t < val (n + 1) := fun h1 => by
    rcases min_lt_iff.1 (lt_of_not_ge (hs.2.1 (by omega))) with h2 | h2
    · exact h2
    · exact absurd h2 (not_lt.2 (by rw [bound_eq]; exact val_le (by omega) (by omega)))
  have hv : val (n + 1) = (((2 : ℝ) ^ ((n : ℤ) - 126) : ℝ) : EReal) := by
    rw [val_normal (n + 1) (by omega) (by omega)]; congr 2; push_cast; ring
  rw [val_normal n (by omega) (by omega)] at hlow
  unfold scale
  rw [if_neg (not_lt.2 _)]
  · apply le_antisymm
    · rw [Finset.fold_min_le]
      right
      refine ⟨⟨n - 1, by omega⟩, Finset.mem_univ _, ?_⟩
      have e : (((n - 1 : ℕ) : ℤ) - 125) = (n : ℤ) - 126 := by omega
      unfold entry
      simp only [exp2_eq, e, ← hv]
      split_ifs with h1
      · exact le_refl _
      · obtain rfl : n = 252 := by
          by_contra h2
          exact h1 (hup (by omega))
        exact le_of_eq rfl
    · rw [Finset.le_fold_min]
      refine ⟨?_, fun x _ => ?_⟩
      · show _ ≤ val 255
        exact val_le (by omega) (by omega)
      · unfold entry
        simp only [exp2_eq, cap_eq, hv]
        split_ifs with h1
        · have h2 := pow_lt (hlow.trans_lt h1)
          exact pow_le (by omega)
        · exact pow_le (by omega)
  · show val 1 ≤ t
    rw [val_normal 1 (by omega) (by omega)]
    refine le_trans ?_ hlow
    exact pow_le (by omega)

/-- The kernel's scale from the field it found. -/
def kscale (t : EReal) : EReal :=
  Ideal.ofBits .f32 (if field t = 0#32 then 1065353216#32 else field t + 8388608#32)

/-- The kernel's inverse scale from the field it found. -/
def kinv (t : EReal) : EReal :=
  Ideal.ofBits .f32 (if field t = 0#32 then 1065353216#32 else 2122317824#32 - field t)

theorem field_scale (t : EReal) : kscale (min t bound) = scale t := by
  unfold kscale
  have hle := fieldN_le t
  rw [field_eq]
  by_cases h : fieldN (min t bound) = 0
  · rw [if_pos ((word_eq_zero _ (by omega)).2 h), scale_small t h]
    exact Ideal.ofBits_one_f32
  · rw [if_neg (fun e => h ((word_eq_zero _ (by omega)).1 e)), scale_normal t h]
    exact congrArg (Ideal.ofBits .f32) (word_add _ 1)

theorem field_inv (t : EReal) : kinv (min t bound) = Ideal.div 1 (scale t) := by
  unfold kinv
  have hle := fieldN_le t
  rw [field_eq]
  by_cases h : fieldN (min t bound) = 0
  · rw [if_pos ((word_eq_zero _ (by omega)).2 h), scale_small t h]
    rw [show Ideal.ofBits .f32 1065353216#32 = 1 from Ideal.ofBits_one_f32]
    unfold Ideal.div
    rw [if_neg one_ne_zero]
    simp
  · rw [if_neg (fun e => h ((word_eq_zero _ (by omega)).1 e)), scale_normal t h]
    obtain ⟨n, hn⟩ : ∃ n, fieldN (min t bound) = n := ⟨_, rfl⟩
    rw [hn] at h hle ⊢
    have e : 2122317824#32 - word n = word (253 - n) := word_sub ⟨n, by omega⟩
    rw [e, show Ideal.ofBits .f32 (word (253 - n)) = val (253 - n) from rfl, val_normal _ (by omega) (by omega),
      val_normal _ (by omega) (by omega)]
    unfold Ideal.div
    rw [if_neg, one_mul, ← EReal.coe_inv]
    · congr 1
      rw [← zpow_neg]
      congr 1
      omega
    · have : (0 : ℝ) < (2 : ℝ) ^ (((n + 1 : ℕ) : ℤ) - 127) := zpow_pos (by norm_num) _
      exact_mod_cast this.ne'

end Cert.Scale
-- ==== Proof.Body.lean ====
/-
  The kernel body's values, written once for all of its row groups and tiles.

  The body handles eight groups of 128 rows with the same operations, and it widens 256 tiles of the codes with the same
  operations. This file writes these operations once, as functions of the group or the tile, and reads the pure ones at an
  index.
-/
module

public import proofs.«01_k».proof.Proof.Scale
public import proofs.«01_k».proof.Proof.Gen.KernelIdeal.Skeleton
public import Idealize.ShloMosaic.Lib.Pipeline.ValueKit

@[expose] public section

set_option maxRecDepth 16384

noncomputable section

namespace Cert.KernelIdeal.Hand

open Cert.KernelIdeal Cert.KernelIdeal.Gen Idealize.ShloMosaic Idealize.ShloMosaic.TcCoe Idealize.SL.Sem

/-! ## The exponent search -/

/-- One step of the search on a vector. -/
def stepV {s : Shape} (t : FVec Ideal s .f32) (w : BitVec 32) (v : IVec s 32) : IVec s 32 :=
  select (cmpf .ole (bitcastToFloat .f32 (addi v (broadcast s w))) t) (addi v (broadcast s w)) v

/-- The search over the eight bits of the exponent field. -/
def fieldV {s : Shape} (t : FVec Ideal s .f32) : IVec s 32 :=
  stepV t 8388608#32 (stepV t 16777216#32 (stepV t 33554432#32 (stepV t 67108864#32
    (stepV t 134217728#32 (stepV t 268435456#32 (stepV t 536870912#32 (stepV t 1073741824#32 (broadcast s 0#32))))))))

/-- The scale of each peak. -/
def scaleV {s : Shape} (t : FVec Ideal s .f32) : FVec Ideal s .f32 :=
  bitcastToFloat .f32 (select (cmpi .eq (fieldV t) (broadcast s 0#32)) (broadcast s 1065353216#32)
    (addi (fieldV t) (broadcast s 8388608#32)))

/-- The inverse of the scale of each peak. -/
def invV {s : Shape} (t : FVec Ideal s .f32) : FVec Ideal s .f32 :=
  bitcastToFloat .f32 (select (cmpi .eq (fieldV t) (broadcast s 0#32)) (broadcast s 1065353216#32)
    (subi (broadcast s 2122317824#32) (fieldV t)))

/-! ## One group of rows -/

/-- The bounded peaks of the rows of a block. -/
def rowPeak (h : FVec Ideal S128x128 .f32) : FVec Ideal S128x1 .f32 :=
  minimumf (mulf (shapeCast S128x1 (multiReduction .maximumf [1] S128 (absf h) 0xFF800000#32 reduces_S128x128_S128 (.inl rfl) rfl)
    shapeCasts_S128_S128x1) (broadcast S128x1 (Scalar.ofBits .f32 0x3B124925#32)))
    (broadcast S128x1 (Scalar.ofBits .f32 0x7E000000#32))

/-- The bounded peaks of the columns of a block. -/
def colPeak (h : FVec Ideal S128x128 .f32) : FVec Ideal S1x128 .f32 :=
  minimumf (mulf (shapeCast S1x128 (multiReduction .maximumf [0] S128 (absf h) 0xFF800000#32 reduces_S128x128_S128_2 (.inl rfl) rfl)
    shapeCasts_S128_S1x128) (broadcast S1x128 (Scalar.ofBits .f32 0x3B124925#32)))
    (broadcast S1x128 (Scalar.ofBits .f32 0x7E000000#32))

/-- Clipping to the range of the codes, and the cast to them. -/
def clip (x : FVec Ideal S128x128 .f32) : FVec Ideal S128x128 .fp8e4m3 :=
  truncf .fp8e4m3 (minimumf (broadcast S128x128 (Scalar.ofBits .f32 0x43E00000#32))
    (maximumf (broadcast S128x128 (Scalar.ofBits .f32 0xC3E00000#32)) x)) bitsLt_fp8e4m3_f32

/-- The codes of a block, one scale a row. -/
def hCodes (h : FVec Ideal S128x128 .f32) : FVec Ideal S128x128 .fp8e4m3 :=
  clip (mulf h (broadcastTo S128x128 (invV (rowPeak h)) broadcasts_S128x1_S128x128))

/-- The diagonal of a square block. -/
def eye : IVec S128x128 1 :=
  cmpi .eq (iota .tc S128x128 32 [0] iota_S128x128_d0_w32) (iota .tc S128x128 32 [1] iota_S128x128_d1_w32)

/-- The row scales of a block as a row: spread along the lanes, kept on the diagonal, summed over the rows. -/
def hScales (h : FVec Ideal S128x128 .f32) : FVec Ideal S1x1x1x128 .f32 :=
  shapeCast S1x1x1x128 (shapeCast S1x128 (multiReduction .add [0] S128 (select eye
    (broadcastTo S128x128 (shapeCast S128x1 (scaleV (rowPeak h)) shapeCasts_S128x1_S128x1) broadcasts_S128x1_S128x128)
    (broadcast S128x128 (Scalar.ofBits .f32 0x00000000#32))) 0x00000000#32 reduces_S128x128_S128_2 (.inl rfl) rfl)
    shapeCasts_S128_S1x128) shapeCasts_S1x128_S1x1x1x128

/-- The transposed codes of a block, one scale a column. -/
def htCodes (h : FVec Ideal S128x128 .f32) : FVec Ideal S1x128x128 .fp8e4m3 :=
  shapeCast S1x128x128 (truncf .fp8e4m3 (transpose S128x128 [1, 0] (extf .bf16
    (clip (mulf h (broadcastTo S128x128 (invV (colPeak h)) broadcasts_S1x128_S128x128))) bitsLt_fp8e4m3_bf16)
    transposes_S128x128_p1_0_S128x128) bitsLt_fp8e4m3_bf16) shapeCasts_S128x128_S1x128x128

/-- The column scales of a block. -/
def htScales (h : FVec Ideal S128x128 .f32) : FVec Ideal S1x1x128 .f32 :=
  shapeCast S1x1x128 (scaleV (colPeak h)) shapeCasts_S1x128_S1x1x128

theorem slices_gate : ∀ q : Fin 8, S1024x256.Slices ![128 * q.val, 0] S128x128 := by decide

theorem slices_up : ∀ q : Fin 8, S1024x256.Slices ![128 * q.val, 128] S128x128 := by decide

/-- The activations of group `q` of rows: `silu(gate) * up` of the two halves of the product. -/
def hBlock (gp : FVec Ideal S1024x256 .f32) (q : Fin 8) : FVec Ideal S128x128 .f32 :=
  mulf (mulf (extractStridedSlice S128x128 ![128 * q.val, 0] gp (slices_gate q))
    (logistic (extractStridedSlice S128x128 ![128 * q.val, 0] gp (slices_gate q))))
    (extractStridedSlice S128x128 ![128 * q.val, 128] gp (slices_up q))

/-! ## The product -/

/-- One widened tile of a weight. -/
def wTile (w : Vec Ideal S128x128 .fp8e4m3) (s : Elt Ideal .f32) : FVec Ideal S128x128 .bf16 :=
  have v : Ideal .bf16 := Scalar.truncf (F := Ideal) .bf16 bitsLt_bf16_f32 s
  mulf (extf (F := Ideal) .bf16 w bitsLt_fp8e4m3_bf16) (broadcast S128x128 v)

/-- The tiles of a weight, one under the other. -/
def stack (t : Fin 32 → FVec Ideal S128x128 .bf16) : FVec Ideal S4096x128 .bf16 :=
  concatenate S4096x128 0 [⟨S128x128, t 0⟩, ⟨S128x128, t 1⟩, ⟨S128x128, t 2⟩, ⟨S128x128, t 3⟩, ⟨S128x128, t 4⟩, ⟨S128x128, t 5⟩,
    ⟨S128x128, t 6⟩, ⟨S128x128, t 7⟩, ⟨S128x128, t 8⟩, ⟨S128x128, t 9⟩, ⟨S128x128, t 10⟩, ⟨S128x128, t 11⟩, ⟨S128x128, t 12⟩,
    ⟨S128x128, t 13⟩, ⟨S128x128, t 14⟩, ⟨S128x128, t 15⟩, ⟨S128x128, t 16⟩, ⟨S128x128, t 17⟩, ⟨S128x128, t 18⟩, ⟨S128x128, t 19⟩,
    ⟨S128x128, t 20⟩, ⟨S128x128, t 21⟩, ⟨S128x128, t 22⟩, ⟨S128x128, t 23⟩, ⟨S128x128, t 24⟩, ⟨S128x128, t 25⟩, ⟨S128x128, t 26⟩,
    ⟨S128x128, t 27⟩, ⟨S128x128, t 28⟩, ⟨S128x128, t 29⟩, ⟨S128x128, t 30⟩, ⟨S128x128, t 31⟩]
    concatenates_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S4096x128_d0

/-- Gate and up products side by side. -/
def product (g u : Fin 32 → FVec Ideal S128x128 .bf16) (aw : Vec Ideal S1024x4096 .bf16) : FVec Ideal S1024x256 .f32 :=
  have w : FVec Ideal S4096x256 .bf16 := concatenate S4096x256 1 [⟨S4096x128, stack g⟩, ⟨S4096x128, stack u⟩]
    concatenates_S4096x128_S4096x128_S4096x256_d1
  matmul (F := Ideal) (φ₁ := .bf16) dot_S1024x4096_S4096x256_S1024x256_1_0_0_1_n_n none aw w (constant S1024x256 .f32 0x00000000#32)

/-! ## The widened codes -/

theorem slices_scale : ∀ k : Fin 32, S128x128.Slices ![0, k.val] S128x1 := by decide

/-- The transposed scales of a group of rows, widened to 128 columns. -/
def aScales (st : Vec Ideal S1x32x128 .f32) : FVec Ideal S128x128 .bf16 :=
  have z : FVec Ideal S96x128 .f32 := broadcast S96x128 (Scalar.ofBits .f32 0x00000000#32)
  have v : FVec Ideal S32x128 .f32 := shapeCast S32x128 st shapeCasts_S1x32x128_S32x128
  have w : FVec Ideal S128x128 .f32 := concatenate S128x128 0 [⟨S32x128, v⟩, ⟨S96x128, z⟩] concatenates_S32x128_S96x128_S128x128_d0
  have t : FVec Ideal S128x128 .f32 := transpose S128x128 [1, 0] w transposes_S128x128_p1_0_S128x128
  truncf .bf16 t bitsLt_bf16_f32

/-- One widened tile of the codes: the tile times column `k` of its rows' transposed scales. -/
def aTile (st : Vec Ideal S1x32x128 .f32) (a : Vec Ideal S128x128 .fp8e4m3) (k : Fin 32) : Vec Ideal S128x128 .bf16 :=
  have x : FVec Ideal S128x128 .bf16 := extf (F := Ideal) .bf16 a bitsLt_fp8e4m3_bf16
  have c : FVec Ideal S128x1 .bf16 := extractStridedSlice S128x1 ![0, k.val] (aScales st) (slices_scale k)
  have y : FVec Ideal S128x128 .bf16 := broadcastTo S128x128 c broadcasts_S128x1_S128x128
  have z : FVec Ideal S128x128 .bf16 := mulf x y
  shapeCast S128x128 z shapeCasts_S128x128_S128x128

/-! ## The loads -/

theorem inb_tile : ∀ k : Fin 32, ∀ a, (![128 * k.val, 0] : Fin 2 → ℕ) a + S128x128.size a ≤ S4096x128.size a := by decide

theorem inb_scales : ∀ q : Fin 8, ∀ a, (![0, 0, 128 * q.val] : Fin 3 → ℕ) a + S1x32x128.size a ≤ S1x32x1024.size a := by decide

theorem inb_strip : ∀ q : Fin 8, ∀ a, (![128 * q.val, 0] : Fin 2 → ℕ) a + S128x4096.size a ≤ S1024x4096.size a := by decide

theorem inb_cols : ∀ k : Fin 32, ∀ a, (![0, 128 * k.val] : Fin 2 → ℕ) a + S128x128.size a ≤ S128x4096.size a := by decide

theorem inb_wide : ∀ q : Fin 8, ∀ k : Fin 32, ∀ a,
    (![128 * q.val, 128 * k.val] : Fin 2 → ℕ) a + S128x128.size a ≤ S1024x4096.size a := by decide

/-- The place of a weight tile's scale: row `k`, the column of the grid point. -/
def soff (k : Fin 32) (i : grid0.Coords) : Fin 2 → ℕ :=
  ![k.val, (Scalar.indexCast (Scalar.addi (Scalar.muli (BitVec.ofNat 32 (i 1).val) 1#32) 0#32)).toNat]

theorem soff_inb (k : Fin 32) (i : grid0.Coords) : ∀ a, soff k i a + S1x1.size a ≤ S32x28.size a := by
  have h := k0_off2_inb i 1
  intro a
  match a with
  | 0 => exact Nat.succ_le_of_lt k.isLt
  | 1 => exact h

/-! ## The pieces the body stores -/

theorem inb6 : ∀ q : Fin 8, ∀ a, (![128 * q.val, 0] : Fin 2 → ℕ) a + S128x128.size a ≤ S1024x128.size a := by decide

theorem inb7 : ∀ q : Fin 8, ∀ a, (![0, 0, 0, 128 * q.val] : Fin 4 → ℕ) a + S1x1x1x128.size a ≤ S1x1x1x1024.size a := by decide

theorem inb8 : ∀ q : Fin 8, ∀ a, (![0, 0, 128 * q.val] : Fin 3 → ℕ) a + S1x128x128.size a ≤ S1x128x1024.size a := by decide

theorem inb9 : ∀ q : Fin 8, ∀ a, (![0, q.val, 0] : Fin 3 → ℕ) a + S1x1x128.size a ≤ S1x8x128.size a := by decide

/-- The codes group `q` stores. -/
def piece6 (gp : FVec Ideal S1024x256 .f32) (q : Fin 8) : View.Piece (Elt Ideal) S1024x128 .fp8e4m3 :=
  ⟨Rect.unit (s := S1024x128) ![128 * q.val, 0] S128x128.size (inb6 q), hCodes (hBlock gp q)⟩

/-- The scales group `q` stores. -/
def piece7 (gp : FVec Ideal S1024x256 .f32) (q : Fin 8) : View.Piece (Elt Ideal) S1x1x1x1024 .f32 :=
  ⟨Rect.unit (s := S1x1x1x1024) ![0, 0, 0, 128 * q.val] S1x1x1x128.size (inb7 q), hScales (hBlock gp q)⟩

/-- The transposed codes group `q` stores. -/
def piece8 (gp : FVec Ideal S1024x256 .f32) (q : Fin 8) : View.Piece (Elt Ideal) S1x128x1024 .fp8e4m3 :=
  ⟨Rect.unit (s := S1x128x1024) ![0, 0, 128 * q.val] S1x128x128.size (inb8 q), htCodes (hBlock gp q)⟩

/-- The column scales group `q` stores. -/
def piece9 (gp : FVec Ideal S1024x256 .f32) (q : Fin 8) : View.Piece (Elt Ideal) S1x8x128 .f32 :=
  ⟨Rect.unit (s := S1x8x128) ![0, q.val, 0] S1x1x128.size (inb9 q), htScales (hBlock gp q)⟩

/-- The eight groups, the last stored first. -/
def groups {α : Type} (f : Fin 8 → α) : List α := [f 7, f 6, f 5, f 4, f 3, f 2, f 1, f 0]

theorem mem_groups {α : Type} (f : Fin 8 → α) (p : α) : p ∈ groups f ↔ ∃ q, p = f q := by
  simp only [groups, List.mem_cons, List.not_mem_nil, or_false]
  constructor
  · rintro (h | h | h | h | h | h | h | h) <;> exact ⟨_, h⟩
  · rintro ⟨q, rfl⟩
    fin_cases q <;> simp

/-- The first `n` of a sequence, the last first. -/
def down {α : Type} (f : ℕ → α) : ℕ → List α
  | 0 => []
  | n + 1 => f n :: down f n

theorem mem_down {α : Type} (f : ℕ → α) (p : α) : ∀ n, p ∈ down f n ↔ ∃ k < n, p = f k
  | 0 => by simp [down]
  | n + 1 => by
    simp only [down, List.mem_cons, mem_down f p n]
    constructor
    · rintro (h | ⟨k, hk, h⟩)
      · exact ⟨n, by omega, h⟩
      · exact ⟨k, by omega, h⟩
    · rintro ⟨k, hk, h⟩
      rcases Nat.lt_succ_iff_lt_or_eq.1 hk with h1 | rfl
      · exact .inr ⟨k, h1, h⟩
      · exact .inl h

/-- The group of the `n`-th tile. -/
def tileRow (n : ℕ) : Fin 8 := ⟨n / 32 % 8, Nat.mod_lt _ (by decide)⟩

/-- The column of the `n`-th tile. -/
def tileCol (n : ℕ) : Fin 32 := ⟨n % 32, Nat.mod_lt _ (by decide)⟩

/-- The `n`-th widened tile of the codes. -/
def pieceA (st : Fin 8 → Vec Ideal S1x32x128 .f32) (a : Fin 8 → Fin 32 → Vec Ideal S128x128 .fp8e4m3) (n : ℕ) :
    View.Piece (Elt Ideal) S1024x4096 .bf16 :=
  ⟨Rect.unit (s := S1024x4096) ![128 * (tileRow n).val, 128 * (tileCol n).val] S128x128.size (inb_wide (tileRow n) (tileCol n)),
    aTile (st (tileRow n)) (a (tileRow n) (tileCol n)) (tileCol n)⟩

end Cert.KernelIdeal.Hand
-- ==== Proof.Spec.lean ====
/-
  The mathematics of the step, on functions of row and column numbers: what both programs' results are read as.
-/
module

public import proofs.«01_k».proof.Proof.Scale

@[expose] public section

noncomputable section

namespace Cert.Spec

open Idealize.ShloMosaic

/-- The gated product: `silu(g) * p`. -/
def glu (g p : EReal) : EReal := g * Ideal.logistic g * p

/-- The greatest magnitude of 128 values, over 448. -/
def peak (x : Fin 128 → EReal) : EReal :=
  Finset.univ.fold max (Ideal.ofBits .f32 0xFF800000#32) (fun l => max (x l) (-(x l))) * Ideal.ofBits .f32 0x3B124925#32

/-- The code of a value whose block has scale `s`. -/
def code (x s : EReal) : EReal :=
  min (Ideal.ofBits .f32 0x43E00000#32) (max (Ideal.ofBits .f32 0xC3E00000#32) (x * Ideal.div 1 s))

/-- The widened codes. -/
def lhs (a : Fin 6144 → Fin 4096 → EReal) (s : Fin 3 → Fin 32 → Fin 2048 → EReal) (r : Fin 6144) (k : Fin 4096) : EReal :=
  a r k * s ⟨r.val / 2048, by omega⟩ ⟨k.val / 128, by omega⟩ ⟨r.val % 2048, by omega⟩

/-- A widened weight. -/
def rhs (w : Fin 4096 → Fin 3584 → EReal) (s : Fin 32 → Fin 28 → EReal) (k : Fin 4096) (f : Fin 3584) : EReal :=
  w k f * s ⟨k.val / 128, by omega⟩ ⟨f.val / 128, by omega⟩

/-- The activations. -/
def act (a : Fin 6144 → Fin 4096 → EReal) (g u : Fin 4096 → Fin 3584 → EReal) (r : Fin 6144) (f : Fin 3584) : EReal :=
  glu (∑ k : Fin 4096, a r k * g k f) (∑ k : Fin 4096, a r k * u k f)

/-- The scale of row `r` in block `n` of columns. -/
def rowScale (h : Fin 6144 → Fin 3584 → EReal) (r : Fin 6144) (n : Fin 28) : EReal :=
  Scale.scale (peak fun l => h r ⟨128 * n.val + l.val, by omega⟩)

/-- The scale of column `f` in block `n` of rows. -/
def colScale (h : Fin 6144 → Fin 3584 → EReal) (n : Fin 48) (f : Fin 3584) : EReal :=
  Scale.scale (peak fun l => h ⟨128 * n.val + l.val, by omega⟩ f)

end Cert.Spec
-- ==== Proof.Reads.lean ====
/-
  The operations of `Body.lean` read at an index.
-/
module

public import proofs.«01_k».proof.Proof.Body
public import proofs.«01_k».proof.Proof.Spec
public import Idealize.ShloMosaic.Lib.Pointwise

@[expose] public section

set_option maxRecDepth 16384

noncomputable section

namespace Cert.KernelIdeal.Hand

open Cert.KernelIdeal Cert.KernelIdeal.Gen Idealize.ShloMosaic Idealize.ShloMosaic.TcCoe Idealize.SL.Sem

/-- A choice by an equality of words. -/
theorem select_eq {α : Type} {w : ℕ} (a b : BitVec w) (x y : α) :
    Scalar.select (IntOp.cmpi .eq a b) x y = if a = b then x else y := by
  by_cases h : a = b
  · subst h; rw [if_pos rfl, IntOp.cmpi_eq_self]; rfl
  · rw [if_neg h, show IntOp.cmpi .eq a b = 0#1 by
      have h1 : (a == b) = false := by simpa using h
      simp [IntOp.cmpi, h1]]; rfl

theorem stepV_apply {s : Shape} (t : FVec Ideal s .f32) (w : BitVec 32) (v : IVec s 32) (i : s.Idx) :
    stepV t w v i = Scale.step (t i) w (v i) := by
  pointwise [stepV, Scale.step]
  rfl

theorem fieldV_apply {s : Shape} (t : FVec Ideal s .f32) (i : s.Idx) : fieldV t i = Scale.field (t i) := by
  simp only [fieldV, stepV_apply, Scale.field]
  rfl

theorem scaleV_apply {s : Shape} (t : FVec Ideal s .f32) (i : s.Idx) : scaleV t i = Scale.kscale (t i) := by
  pointwise [scaleV, Scale.kscale, fieldV_apply, select_eq]
  rfl

theorem invV_apply {s : Shape} (t : FVec Ideal s .f32) (i : s.Idx) : invV t i = Scale.kinv (t i) := by
  pointwise [invV, Scale.kinv, fieldV_apply, select_eq]
  rfl

/-- The peak of a row, cut at the greatest scale. -/
theorem rowPeak_apply (h : FVec Ideal S128x128 .f32) (r : Fin 128) :
    rowPeak h (ix2 r 0) = min (Spec.peak fun l => h (ix2 r l)) Scale.bound := by
  pointwise [rowPeak, Spec.peak, Scale.bound]
  rfl

/-- The peak of a column, cut at the greatest scale. -/
theorem colPeak_apply (h : FVec Ideal S128x128 .f32) (c : Fin 128) :
    colPeak h (ix2 0 c) = min (Spec.peak fun l => h (ix2 l c)) Scale.bound := by
  pointwise [colPeak, Spec.peak, Scale.bound]
  rfl

/-- Two coordinates are equal when their words are. -/
theorem word_eq (x y : Fin 128) : BitVec.ofNat 32 x.val = BitVec.ofNat 32 y.val ↔ x = y := by
  constructor
  · intro h
    have h1 := congrArg BitVec.toNat h
    simp only [BitVec.toNat_ofNat] at h1
    exact Fin.ext (by omega)
  · rintro rfl; rfl

theorem hBlock_apply (gp : FVec Ideal S1024x256 .f32) (q : Fin 8) (r c : Fin 128) :
    hBlock gp q (ix2 r c) = Spec.glu (gp (ix2 ⟨128 * q.val + r.val, by omega⟩ ⟨c.val, by omega⟩))
      (gp (ix2 ⟨128 * q.val + r.val, by omega⟩ ⟨128 + c.val, by omega⟩)) := by
  pointwise [hBlock, Spec.glu]

/-- The codes along rows of one group. -/
theorem hCodes_apply (h : FVec Ideal S128x128 .f32) (r c : Fin 128) :
    hCodes h (ix2 r c) = Spec.code (h (ix2 r c)) (Scale.scale (Spec.peak fun l => h (ix2 r l))) := by
  rw [Spec.code, ← Scale.field_inv]
  pointwise [hCodes, clip, invV_apply, rowPeak_apply]

/-- The codes along columns of one group, transposed. -/
theorem htCodes_apply (h : FVec Ideal S128x128 .f32) (r c : Fin 128) :
    htCodes h (ix3 0 c r) = Spec.code (h (ix2 r c)) (Scale.scale (Spec.peak fun l => h (ix2 l c))) := by
  rw [Spec.code, ← Scale.field_inv]
  pointwise [htCodes, clip, invV_apply, colPeak_apply]

/-- The scales along columns of one group. -/
theorem htScales_apply (h : FVec Ideal S128x128 .f32) (c : Fin 128) :
    htScales h (ix3 0 0 c) = Scale.scale (Spec.peak fun l => h (ix2 l c)) := by
  rw [← Scale.field_scale]
  pointwise [htScales, scaleV_apply, colPeak_apply]

/-- The scales along rows of one group. -/
theorem hScales_apply (h : FVec Ideal S128x128 .f32) (r : Fin 128) :
    hScales h (ix4 0 0 0 r) = Scale.scale (Spec.peak fun l => h (ix2 r l)) := by
  rw [← Scale.field_scale]
  pointwise [hScales, eye, scaleV_apply, rowPeak_apply, select_eq, word_eq]
  rw [Finset.sum_ite_eq']
  simp

/-- A stack of square tiles read at a row: the row lies in the tile that its quotient names. -/
theorem stackAt (k : Fin 4096) (l : Fin 128) : ∀ (xs : List (FVec Ideal S128x128 .bf16))
    (hs : ∀ s ∈ (xs.map fun x => (⟨S128x128, x⟩ : (s : Shape) × (s.Idx → Ideal .bf16))).map (·.1), s.FitsOff S4096x128 0) (c : ℕ)
    (hc : c < (axisSizes S4096x128 0 (xs.map fun x => (⟨S128x128, x⟩ : (s : Shape) × (s.Idx → Ideal .bf16)))).sum)
    (q : ℕ) (r : Fin 128) (hq : q < xs.length), c = 128 * q + r.val →
    concatenateAt S4096x128 0 (ix2 k l) (xs.map fun x => ⟨S128x128, x⟩) hs c hc = xs[q] (ix2 r l)
  | [], _, _, _, _, _, hq, _ => absurd hq (Nat.not_lt_zero _)
  | [x], hs, c, hc, 0, r, _, e => by
    have e' : c = r.val := by omega
    subst e'
    simp only [List.map_cons, List.map_nil]
    rw [concatenateAt]
    refine congrArg x (funext fun b => ?_)
    fin_cases b <;> rfl
  | [x], _, _, _, q + 1, _, hq, _ => by simp at hq
  | x :: y :: xs, hs, c, hc, 0, r, hq, e => by
    have e' : c = r.val := by omega
    subst e'
    simp only [List.map_cons]
    rw [concatenateAt]
    refine (dif_pos (show r.val < 128 from r.isLt)).trans ?_
    refine congrArg x (funext fun b => ?_)
    fin_cases b <;> rfl
  | x :: y :: xs, hs, c, hc, q + 1, r, hq, e => by
    simp only [List.map_cons]
    rw [concatenateAt]
    refine (dif_neg (show ¬ c < 128 by omega)).trans ?_
    exact stackAt k l (y :: xs) _ (c - 128) _ q r (by simpa using hq) (by omega)

/-- Row `128 q + r` of the stack is row `r` of tile `q`. -/
theorem stack_apply (t : Fin 32 → FVec Ideal S128x128 .bf16) (q : Fin 32) (r c : Fin 128) (k : Fin 4096) (h : k.val = 128 * q.val + r.val) :
    stack t (ix2 k c) = t q (ix2 r c) := by
  rw [stack, concatenate_apply]
  refine (stackAt k c [t 0, t 1, t 2, t 3, t 4, t 5, t 6, t 7, t 8, t 9, t 10, t 11, t 12, t 13, t 14, t 15, t 16, t 17, t 18, t 19,
    t 20, t 21, t 22, t 23, t 24, t 25, t 26, t 27, t 28, t 29, t 30, t 31] _ k.val _ q.val r (by simpa using q.isLt) h).trans ?_
  refine congrFun ?_ (ix2 r c)
  fin_cases q <;> rfl

/-- A tile of codes times its row scales. -/
theorem aTile_apply (st : Vec Ideal S1x32x128 .f32) (a : Vec Ideal S128x128 .fp8e4m3) (k : Fin 32) (r c : Fin 128) :
    aTile st a k (ix2 r c) = a (ix2 r c) * st (ix3 0 k r) := by
  pointwise [aTile, aScales]

/-- A tile of a weight times its scale. -/
theorem wTile_apply (w : Vec Ideal S128x128 .fp8e4m3) (s : Elt Ideal .f32) (r c : Fin 128) :
    wTile w s (ix2 r c) = w (ix2 r c) * s := by
  pointwise [wTile]

/-- The first 128 columns of the product: the gate. -/
theorem product_gate (g u : Fin 32 → FVec Ideal S128x128 .bf16) (aw : Vec Ideal S1024x4096 .bf16) (r : Fin 1024) (c : Fin 128) :
    product g u aw (ix2 r ⟨c.val, by omega⟩) = ∑ k : Fin 4096, aw (ix2 r k) * stack g (ix2 k c) := by
  pointwise [product]

/-- The last 128 columns of the product: the up projection. -/
theorem product_up (g u : Fin 32 → FVec Ideal S128x128 .bf16) (aw : Vec Ideal S1024x4096 .bf16) (r : Fin 1024) (c : Fin 128) :
    product g u aw (ix2 r ⟨128 + c.val, by omega⟩) = ∑ k : Fin 4096, aw (ix2 r k) * stack u (ix2 k c) := by
  pointwise [product]

end Cert.KernelIdeal.Hand
-- ==== Proof.Runs.lean ====
/-
  What the two cases of the kernel's body store, as the lists of pieces of `Body.lean`.

  Each theorem here is a comparison of the generated run's pieces with those lists, made by evaluation.
-/
module

public import proofs.«01_k».proof.Proof.Body
public import proofs.«01_k».proof.Proof.Gen.KernelIdeal.Frame

@[expose] public section

set_option maxRecDepth 65536

noncomputable section

namespace Cert.KernelIdeal.Hand

open Cert.KernelIdeal Cert.KernelIdeal.Gen Idealize.ShloMosaic Idealize.ShloMosaic.TcCoe Idealize.SL.Sem

/-! ## The loads, as functions of the tile -/

/-- A widened weight tile from the body's loads of a weight and its scales. -/
def loadW (i : grid0.Coords) (w : Memref sig .tc .vmem S4096x128 .fp8e4m3) (hw : w.IsWhole)
    (s : Memref sig .tc .smem S32x28 .f32) (hs : s.IsWhole) (x : Vec Ideal S4096x128 .fp8e4m3) (y : Vec Ideal S32x28 .f32)
    (k : Fin 32) : FVec Ideal S128x128 .bf16 :=
  wTile (View.readAt (Elt Ideal) w.view (Rect.unit (s := S4096x128) ![128 * k.val, 0] S128x128.size (inb_tile k)).toLoadRect
      (hw.unread x))
    (View.readAt (Elt Ideal) s.view (Rect.unit (s := S32x28) (soff k i) S1x1.size (soff_inb k i)).toLoadRect
      (hs.unread y) (Shape.Idx.first (show 0 < S1x1.numel by decide)))

/-- A group's scales of the codes. -/
def loadS (arg3 : Memref sig .tc .vmem S1x32x1024 .f32) (harg3 : arg3.IsWhole) (x1 : Vec Ideal S1x32x1024 .f32) (q : Fin 8) :
    Vec Ideal S1x32x128 .f32 :=
  View.readAt (Elt Ideal) arg3.view (Rect.unit (s := S1x32x1024) ![0, 0, 128 * q.val] S1x32x128.size (inb_scales q)).toLoadRect
    (harg3.unread x1)

/-- A tile of the codes. -/
def loadA (arg2 : Memref sig .tc .vmem S1024x4096 .fp8e4m3) (harg2 : arg2.IsWhole) (x0 : Vec Ideal S1024x4096 .fp8e4m3)
    (q : Fin 8) (k : Fin 32) : Vec Ideal S128x128 .fp8e4m3 :=
  View.readAt (Elt Ideal) arg2.view
    ((Rect.unit (s := S1024x4096) ![128 * q.val, 0] S128x4096.size (inb_strip q)).withinL
      (Rect.unit (s := S128x4096) ![0, 128 * k.val] S128x128.size (inb_cols k)).toLoadRect (by intro a; rfl))
    (harg2.unread x0)

variable
  (c : Dev nD) (i : grid0.Coords) (arg2 : Memref sig .tc .vmem S1024x4096 .fp8e4m3) (harg2 : arg2.IsWhole)
  (arg3 : Memref sig .tc .vmem S1x32x1024 .f32) (harg3 : arg3.IsWhole)
  (arg4 : Memref sig .tc .vmem S4096x128 .fp8e4m3) (harg4 : arg4.IsWhole)
  (arg5 : Memref sig .tc .vmem S4096x128 .fp8e4m3) (harg5 : arg5.IsWhole)
  (arg6 : Memref sig .tc .smem S32x28 .f32) (harg6 : arg6.IsWhole)
  (arg7 : Memref sig .tc .smem S32x28 .f32) (harg7 : arg7.IsWhole)
  (arg8 : Memref sig .tc .vmem S1024x128 .fp8e4m3) (harg8 : arg8.IsWhole)
  (arg9 : Memref sig .tc .vmem S1x1x1x1024 .f32) (harg9 : arg9.IsWhole)
  (arg10 : Memref sig .tc .vmem S1x128x1024 .fp8e4m3) (harg10 : arg10.IsWhole)
  (arg11 : Memref sig .tc .vmem S1x8x128 .f32) (harg11 : arg11.IsWhole)
  (arg12 : Memref sig .tc .vmem S1024x4096 .bf16) (harg12 : arg12.IsWhole)
  (x0 : Vec Ideal S1024x4096 .fp8e4m3) (x1 : Vec Ideal S1x32x1024 .f32) (x2 x3 : Vec Ideal S4096x128 .fp8e4m3)
  (x4 x5 : Vec Ideal S32x28 .f32) (xs0 : Vec Ideal S1024x4096 .bf16)

/-- What the scratch holds of the widened codes. -/
theorem piecesA (hc0 : cond0_0 i) :
    (kernelRun0_A c i arg2 harg2 arg3 harg3 arg4 harg4 arg5 harg5 arg6 harg6 arg7 harg7 arg8 harg8 arg9 harg9 arg10 harg10 arg11 harg11 arg12 harg12
        hc0 x0 x1 x2 x3 x4 x5).2.2.2.2.1 =
      down (pieceA (loadS arg3 harg3 x1) (loadA arg2 harg2 x0)) 256 := by
  sl_kernel_rfl

/-- What a point that widens the codes stores to output 6. -/
theorem piecesA_6 (hc0 : cond0_0 i) :
    (kernelRun0_A c i arg2 harg2 arg3 harg3 arg4 harg4 arg5 harg5 arg6 harg6 arg7 harg7 arg8 harg8 arg9 harg9 arg10 harg10 arg11 harg11 arg12 harg12
        hc0 x0 x1 x2 x3 x4 x5).1 =
      groups (piece6 (product (loadW i arg4 harg4 arg6 harg6 x2 x4) (loadW i arg5 harg5 arg7 harg7 x3 x5)
        (View.readCov (Val := Elt Ideal) arg12.view
          (kernelRun0_A c i arg2 harg2 arg3 harg3 arg4 harg4 arg5 harg5 arg6 harg6 arg7 harg7 arg8 harg8 arg9 harg9 arg10 harg10 arg11 harg11 arg12 harg12
        hc0 x0 x1 x2 x3 x4 x5).2.2.2.2.1
          (Rect.unit (s := S1024x4096) ![0, 0] S1024x4096.size inb_S1024x4096_S1024x4096_0_0).toLoadRect))) := by
  sl_kernel_rfl

/-- What a point that widens the codes stores to output 7. -/
theorem piecesA_7 (hc0 : cond0_0 i) :
    (kernelRun0_A c i arg2 harg2 arg3 harg3 arg4 harg4 arg5 harg5 arg6 harg6 arg7 harg7 arg8 harg8 arg9 harg9 arg10 harg10 arg11 harg11 arg12 harg12
        hc0 x0 x1 x2 x3 x4 x5).2.1 =
      groups (piece7 (product (loadW i arg4 harg4 arg6 harg6 x2 x4) (loadW i arg5 harg5 arg7 harg7 x3 x5)
        (View.readCov (Val := Elt Ideal) arg12.view
          (kernelRun0_A c i arg2 harg2 arg3 harg3 arg4 harg4 arg5 harg5 arg6 harg6 arg7 harg7 arg8 harg8 arg9 harg9 arg10 harg10 arg11 harg11 arg12 harg12
        hc0 x0 x1 x2 x3 x4 x5).2.2.2.2.1
          (Rect.unit (s := S1024x4096) ![0, 0] S1024x4096.size inb_S1024x4096_S1024x4096_0_0).toLoadRect))) := by
  sl_kernel_rfl

/-- What a point that widens the codes stores to output 8. -/
theorem piecesA_8 (hc0 : cond0_0 i) :
    (kernelRun0_A c i arg2 harg2 arg3 harg3 arg4 harg4 arg5 harg5 arg6 harg6 arg7 harg7 arg8 harg8 arg9 harg9 arg10 harg10 arg11 harg11 arg12 harg12
        hc0 x0 x1 x2 x3 x4 x5).2.2.1 =
      groups (piece8 (product (loadW i arg4 harg4 arg6 harg6 x2 x4) (loadW i arg5 harg5 arg7 harg7 x3 x5)
        (View.readCov (Val := Elt Ideal) arg12.view
          (kernelRun0_A c i arg2 harg2 arg3 harg3 arg4 harg4 arg5 harg5 arg6 harg6 arg7 harg7 arg8 harg8 arg9 harg9 arg10 harg10 arg11 harg11 arg12 harg12
        hc0 x0 x1 x2 x3 x4 x5).2.2.2.2.1
          (Rect.unit (s := S1024x4096) ![0, 0] S1024x4096.size inb_S1024x4096_S1024x4096_0_0).toLoadRect))) := by
  sl_kernel_rfl

/-- What a point that widens the codes stores to output 9. -/
theorem piecesA_9 (hc0 : cond0_0 i) :
    (kernelRun0_A c i arg2 harg2 arg3 harg3 arg4 harg4 arg5 harg5 arg6 harg6 arg7 harg7 arg8 harg8 arg9 harg9 arg10 harg10 arg11 harg11 arg12 harg12
        hc0 x0 x1 x2 x3 x4 x5).2.2.2.1 =
      groups (piece9 (product (loadW i arg4 harg4 arg6 harg6 x2 x4) (loadW i arg5 harg5 arg7 harg7 x3 x5)
        (View.readCov (Val := Elt Ideal) arg12.view
          (kernelRun0_A c i arg2 harg2 arg3 harg3 arg4 harg4 arg5 harg5 arg6 harg6 arg7 harg7 arg8 harg8 arg9 harg9 arg10 harg10 arg11 harg11 arg12 harg12
        hc0 x0 x1 x2 x3 x4 x5).2.2.2.2.1
          (Rect.unit (s := S1024x4096) ![0, 0] S1024x4096.size inb_S1024x4096_S1024x4096_0_0).toLoadRect))) := by
  sl_kernel_rfl

/-- What a point that keeps the widened codes stores to output 6. -/
theorem piecesB_6 (hc0 : ¬cond0_0 i) :
    (kernelRun0_B c i arg2 harg2 arg3 harg3 arg4 harg4 arg5 harg5 arg6 harg6 arg7 harg7 arg8 harg8 arg9 harg9 arg10 harg10 arg11 harg11 arg12 harg12
        hc0 x0 x1 x2 x3 x4 x5 xs0).1 =
      groups (piece6 (product (loadW i arg4 harg4 arg6 harg6 x2 x4) (loadW i arg5 harg5 arg7 harg7 x3 x5)
        (View.readAt (Elt Ideal) arg12.view (Rect.unit (s := S1024x4096) ![0, 0] S1024x4096.size
          inb_S1024x4096_S1024x4096_0_0).toLoadRect (harg12.unread xs0)))) := by
  sl_kernel_rfl

/-- What a point that keeps the widened codes stores to output 7. -/
theorem piecesB_7 (hc0 : ¬cond0_0 i) :
    (kernelRun0_B c i arg2 harg2 arg3 harg3 arg4 harg4 arg5 harg5 arg6 harg6 arg7 harg7 arg8 harg8 arg9 harg9 arg10 harg10 arg11 harg11 arg12 harg12
        hc0 x0 x1 x2 x3 x4 x5 xs0).2.1 =
      groups (piece7 (product (loadW i arg4 harg4 arg6 harg6 x2 x4) (loadW i arg5 harg5 arg7 harg7 x3 x5)
        (View.readAt (Elt Ideal) arg12.view (Rect.unit (s := S1024x4096) ![0, 0] S1024x4096.size
          inb_S1024x4096_S1024x4096_0_0).toLoadRect (harg12.unread xs0)))) := by
  sl_kernel_rfl

/-- What a point that keeps the widened codes stores to output 8. -/
theorem piecesB_8 (hc0 : ¬cond0_0 i) :
    (kernelRun0_B c i arg2 harg2 arg3 harg3 arg4 harg4 arg5 harg5 arg6 harg6 arg7 harg7 arg8 harg8 arg9 harg9 arg10 harg10 arg11 harg11 arg12 harg12
        hc0 x0 x1 x2 x3 x4 x5 xs0).2.2.1 =
      groups (piece8 (product (loadW i arg4 harg4 arg6 harg6 x2 x4) (loadW i arg5 harg5 arg7 harg7 x3 x5)
        (View.readAt (Elt Ideal) arg12.view (Rect.unit (s := S1024x4096) ![0, 0] S1024x4096.size
          inb_S1024x4096_S1024x4096_0_0).toLoadRect (harg12.unread xs0)))) := by
  sl_kernel_rfl

/-- What a point that keeps the widened codes stores to output 9. -/
theorem piecesB_9 (hc0 : ¬cond0_0 i) :
    (kernelRun0_B c i arg2 harg2 arg3 harg3 arg4 harg4 arg5 harg5 arg6 harg6 arg7 harg7 arg8 harg8 arg9 harg9 arg10 harg10 arg11 harg11 arg12 harg12
        hc0 x0 x1 x2 x3 x4 x5 xs0).2.2.2.1 =
      groups (piece9 (product (loadW i arg4 harg4 arg6 harg6 x2 x4) (loadW i arg5 harg5 arg7 harg7 x3 x5)
        (View.readAt (Elt Ideal) arg12.view (Rect.unit (s := S1024x4096) ![0, 0] S1024x4096.size
          inb_S1024x4096_S1024x4096_0_0).toLoadRect (harg12.unread xs0)))) := by
  sl_kernel_rfl

end Cert.KernelIdeal.Hand
-- ==== Proof.Tiles.lean ====
/-
  The lists of pieces of `Body.lean` read at an index: what a grid point's buffers hold.
-/
module

public import proofs.«01_k».proof.Proof.Reads
public import proofs.«01_k».proof.Proof.Runs

@[expose] public section

set_option maxRecDepth 16384

noncomputable section

namespace Cert.KernelIdeal.Hand

open Cert.KernelIdeal Cert.KernelIdeal.Gen Idealize.ShloMosaic Idealize.ShloMosaic.TcCoe Idealize.SL.Sem

/-- The column of a weight's scale is the second grid coordinate. -/
theorem soff_col : ∀ j : Fin 28,
    (Scalar.indexCast (Scalar.addi (Scalar.muli (BitVec.ofNat 32 j.val) 1#32) 0#32)).toNat = j.val := by decide +kernel

/-- A weight tile at an index. -/
theorem loadW_apply (i : grid0.Coords) (w : Memref sig .tc .vmem S4096x128 .fp8e4m3) (hw : w.IsWhole)
    (s : Memref sig .tc .smem S32x28 .f32) (hs : s.IsWhole) (x : Vec Ideal S4096x128 .fp8e4m3) (y : Vec Ideal S32x28 .f32)
    (k : Fin 32) (r c : Fin 128) (K : Fin 4096) (j : Fin 28) (hK : K.val = 128 * k.val + r.val) (hj : (i 1).val = j.val) :
    loadW i w hw s hs x y k (ix2 r c) = x (ix2 K c) * y (ix2 k j) := by
  rw [loadW, wTile_apply, View.readAt_apply, View.readAt_apply, hw.read_unread, hs.read_unread]
  refine congrArg₂ (fun a b : EReal => a * b) (congrArg x (funext fun a => Fin.ext ?_)) (congrArg y (funext fun a => Fin.ext ?_))
  · match a with
    | 0 => show 128 * k.val + 1 * r.val = K.val; omega
    | 1 => show 0 + 1 * c.val = c.val; omega
  · match a with
    | 0 => rfl
    | 1 =>
      refine Eq.trans ?_ hj
      exact soff_col (i 1)

/-- The stacked tiles of a weight at an index. -/
theorem stackW_apply (i : grid0.Coords) (w : Memref sig .tc .vmem S4096x128 .fp8e4m3) (hw : w.IsWhole)
    (s : Memref sig .tc .smem S32x28 .f32) (hs : s.IsWhole) (x : Vec Ideal S4096x128 .fp8e4m3) (y : Vec Ideal S32x28 .f32)
    (K : Fin 4096) (c : Fin 128) (j : Fin 28) (hj : (i 1).val = j.val) :
    stack (loadW i w hw s hs x y) (ix2 K c) = x (ix2 K c) * y (ix2 ⟨K.val / 128, by omega⟩ j) := by
  rw [stack_apply _ ⟨K.val / 128, by omega⟩ ⟨K.val % 128, by omega⟩ c K (by simp only; omega)]
  exact loadW_apply i w hw s hs x y _ _ c K j (by simp only; omega) hj

/-- The scales of a group's codes at an index. -/
theorem loadS_apply (arg3 : Memref sig .tc .vmem S1x32x1024 .f32) (harg3 : arg3.IsWhole) (x1 : Vec Ideal S1x32x1024 .f32)
    (q : Fin 8) (k : Fin 32) (r : Fin 128) (R : Fin 1024) (hR : R.val = 128 * q.val + r.val) :
    loadS arg3 harg3 x1 q (ix3 0 k r) = x1 (ix3 0 k R) := by
  rw [loadS, View.readAt_apply, harg3.read_unread]
  refine congrArg x1 (funext fun a => Fin.ext ?_)
  match a with
  | 0 => rfl
  | 1 => show 0 + 1 * k.val = k.val; omega
  | 2 => show 128 * q.val + 1 * r.val = R.val; omega

/-- A tile of the codes at an index. -/
theorem loadA_apply (arg2 : Memref sig .tc .vmem S1024x4096 .fp8e4m3) (harg2 : arg2.IsWhole) (x0 : Vec Ideal S1024x4096 .fp8e4m3)
    (q : Fin 8) (k : Fin 32) (r c : Fin 128) (R : Fin 1024) (K : Fin 4096) (hR : R.val = 128 * q.val + r.val)
    (hK : K.val = 128 * k.val + c.val) :
    loadA arg2 harg2 x0 q k (ix2 r c) = x0 (ix2 R K) := by
  refine (congrFun (harg2.read_unread x0) _).trans ?_
  refine congrArg x0 (funext fun a => Fin.ext ?_)
  match a with
  | 0 => show (128 * q.val + 0) + 1 * r.val = R.val; omega
  | 1 => show (0 + 128 * k.val) + 1 * c.val = K.val; omega

/-- The scratch: the widened codes. -/
theorem canonA (arg2 : Memref sig .tc .vmem S1024x4096 .fp8e4m3) (harg2 : arg2.IsWhole) (x0 : Vec Ideal S1024x4096 .fp8e4m3)
    (arg3 : Memref sig .tc .vmem S1x32x1024 .f32) (harg3 : arg3.IsWhole) (x1 : Vec Ideal S1x32x1024 .f32) (R : Fin 1024) (K : Fin 4096) :
    View.canon (down (pieceA (loadS arg3 harg3 x1) (loadA arg2 harg2 x0)) 256) (ix2 R K) =
      x0 (ix2 R K) * x1 (ix3 0 ⟨K.val / 128, by omega⟩ R) := by
  refine (View.canon_apply_of_pieces (Val := Elt Ideal) (e := .bf16) (fun y : S1024x4096.Idx =>
    (x0 y : EReal) * x1 (ix3 0 ⟨(y 1).val / 128, by have : (y 1).val < 4096 := (y 1).isLt; omega⟩ (y 0))) _ ?_ _ ?_).trans rfl
  · intro p hp x
    obtain ⟨n, hn, rfl⟩ := (mem_down _ _ _).1 hp
    obtain ⟨r, c, rfl⟩ : ∃ (r c : Fin 128), x = ix2 r c := ⟨x 0, x 1, eq_ix2 x⟩
    refine (aTile_apply _ _ _ r c).trans ?_
    refine congrArg₂ (fun a b : EReal => a * b) ?_ ?_
    · refine (loadA_apply arg2 harg2 x0 _ _ r c ⟨128 * (tileRow n).val + r.val, by omega⟩ ⟨128 * (tileCol n).val + c.val, by omega⟩
        rfl rfl).trans (congrArg x0 (funext fun a => Fin.ext ?_))
      match a with
      | 0 => show 128 * (tileRow n).val + r.val = 128 * (tileRow n).val + 1 * r.val; omega
      | 1 => show 128 * (tileCol n).val + c.val = 128 * (tileCol n).val + 1 * c.val; omega
    · refine (loadS_apply arg3 harg3 x1 _ (tileCol n) r ⟨128 * (tileRow n).val + r.val, by omega⟩ rfl).trans
        (congrArg x1 (congrArg₂ (ix3 0) (Fin.ext ?_) (Fin.ext ?_)))
      · show (tileCol n).val = (128 * (tileCol n).val + 1 * c.val) / 128; omega
      · show 128 * (tileRow n).val + r.val = 128 * (tileRow n).val + 1 * r.val; omega
  · refine ⟨_, (mem_down _ _ _).2 ⟨32 * (R.val / 128) + K.val / 128, by omega, rfl⟩, (Rect.mem_set_unit (inb := inb_wide _ _)).2 fun a => ?_⟩
    match a with
    | 0 =>
      show 128 * ((32 * (R.val / 128) + K.val / 128) / 32 % 8) ≤ R.val ∧ R.val < 128 * ((32 * (R.val / 128) + K.val / 128) / 32 % 8) + 128
      omega
    | 1 =>
      show 128 * ((32 * (R.val / 128) + K.val / 128) % 32) ≤ K.val ∧ K.val < 128 * ((32 * (R.val / 128) + K.val / 128) % 32) + 128
      omega

/-- The scale of row `R` of the 128 columns. -/
def rowS (hb : Fin 1024 → Fin 128 → EReal) (R : Fin 1024) : EReal := Scale.scale (Spec.peak fun l => hb R l)

/-- The scale of column `c` of group `q` of rows. -/
def colS (hb : Fin 1024 → Fin 128 → EReal) (q : Fin 8) (c : Fin 128) : EReal :=
  Scale.scale (Spec.peak fun l => hb ⟨128 * q.val + l.val, by omega⟩ c)

/-- `hb` holds the activations of the eight groups. -/
def Holds (gp : FVec Ideal S1024x256 .f32) (hb : Fin 1024 → Fin 128 → EReal) : Prop :=
  ∀ (q : Fin 8) (r c : Fin 128), hBlock gp q (ix2 r c) = hb ⟨128 * q.val + r.val, by omega⟩ c

/-- Output 6: the codes. -/
theorem canon6 (gp : FVec Ideal S1024x256 .f32) (hb : Fin 1024 → Fin 128 → EReal) (h : Holds gp hb) (R : Fin 1024) (c : Fin 128) :
    View.canon (groups (piece6 gp)) (ix2 R c) = Spec.code (hb R c) (rowS hb R) := by
  refine (View.canon_apply_of_pieces (fun y : S1024x128.Idx => Spec.code (hb (y 0) (y 1)) (rowS hb (y 0))) _ ?_ _ ?_).trans rfl
  · intro p hp x
    obtain ⟨q, rfl⟩ := (mem_groups _ _).1 hp
    obtain ⟨r, c, rfl⟩ : ∃ (r c : Fin 128), x = ix2 r c := ⟨x 0, x 1, eq_ix2 x⟩
    refine (hCodes_apply _ r c).trans ?_
    have e0 : (⟨128 * q.val + r.val, by omega⟩ : Fin 1024) = (piece6 gp q).1.emb (ix2 r c) 0 :=
      Fin.ext (show 128 * q.val + r.val = 128 * q.val + 1 * r.val by omega)
    have e1 : c = (piece6 gp q).1.emb (ix2 r c) 1 := Fin.ext (show c.val = 0 + 1 * c.val by omega)
    refine congrArg₂ Spec.code ((h q r c).trans (congrArg₂ hb e0 e1)) (congrArg Scale.scale (congrArg Spec.peak (funext fun l => ?_)))
    exact (h q r l).trans (congrArg (fun R => hb R l) e0)
  · refine ⟨_, (mem_groups _ _).2 ⟨⟨R.val / 128, by omega⟩, rfl⟩, (Rect.mem_set_unit (inb := inb6 _)).2 fun a => ?_⟩
    match a with
    | 0 => show 128 * (R.val / 128) ≤ R.val ∧ R.val < 128 * (R.val / 128) + 128; omega
    | 1 => show 0 ≤ c.val ∧ c.val < 0 + 128; omega

/-- Output 7: the scales of the codes. -/
theorem canon7 (gp : FVec Ideal S1024x256 .f32) (hb : Fin 1024 → Fin 128 → EReal) (h : Holds gp hb) (R : Fin 1024) :
    View.canon (groups (piece7 gp)) (ix4 0 0 0 R) = rowS hb R := by
  refine (View.canon_apply_of_pieces (fun y : S1x1x1x1024.Idx => rowS hb (y 3)) _ ?_ _ ?_).trans rfl
  · intro p hp x
    obtain ⟨q, rfl⟩ := (mem_groups _ _).1 hp
    obtain ⟨z0, z1, z2, r, rfl⟩ : ∃ (z0 z1 z2 : Fin 1) (r : Fin 128), x = ix4 z0 z1 z2 r := ⟨x 0, x 1, x 2, x 3, eq_ix4 x⟩
    obtain rfl := Subsingleton.elim z0 0
    obtain rfl := Subsingleton.elim z1 0
    obtain rfl := Subsingleton.elim z2 0
    refine (hScales_apply _ r).trans ?_
    have e0 : (⟨128 * q.val + r.val, by omega⟩ : Fin 1024) = (piece7 gp q).1.emb (ix4 0 0 0 r) 3 :=
      Fin.ext (show 128 * q.val + r.val = 128 * q.val + 1 * r.val by omega)
    refine congrArg Scale.scale (congrArg Spec.peak (funext fun l => ?_))
    exact (h q r l).trans (congrArg (fun R => hb R l) e0)
  · refine ⟨_, (mem_groups _ _).2 ⟨⟨R.val / 128, by omega⟩, rfl⟩, (Rect.mem_set_unit (inb := inb7 _)).2 fun a => ?_⟩
    match a with
    | 0 => exact ⟨le_refl 0, Nat.zero_lt_one⟩
    | 1 => exact ⟨le_refl 0, Nat.zero_lt_one⟩
    | 2 => exact ⟨le_refl 0, Nat.zero_lt_one⟩
    | 3 => show 128 * (R.val / 128) ≤ R.val ∧ R.val < 128 * (R.val / 128) + 128; omega

/-- Output 8: the transposed codes. -/
theorem canon8 (gp : FVec Ideal S1024x256 .f32) (hb : Fin 1024 → Fin 128 → EReal) (h : Holds gp hb) (R : Fin 1024) (c : Fin 128) :
    View.canon (groups (piece8 gp)) (ix3 0 c R) = Spec.code (hb R c) (colS hb ⟨R.val / 128, by omega⟩ c) := by
  refine (View.canon_apply_of_pieces (fun y : S1x128x1024.Idx => Spec.code (hb (y 2) (y 1))
    (colS hb ⟨(y 2).val / 128, by have : (y 2).val < 1024 := (y 2).isLt; omega⟩ (y 1))) _ ?_ _ ?_).trans rfl
  · intro p hp x
    obtain ⟨q, rfl⟩ := (mem_groups _ _).1 hp
    obtain ⟨z0, c, r, rfl⟩ : ∃ (z0 : Fin 1) (c r : Fin 128), x = ix3 z0 c r := ⟨x 0, x 1, x 2, eq_ix3 x⟩
    obtain rfl := Subsingleton.elim z0 0
    refine (htCodes_apply _ r c).trans ?_
    have e0 : (⟨128 * q.val + r.val, by omega⟩ : Fin 1024) = (piece8 gp q).1.emb (ix3 0 c r) 2 :=
      Fin.ext (show 128 * q.val + r.val = 128 * q.val + 1 * r.val by omega)
    have e1 : c = (piece8 gp q).1.emb (ix3 0 c r) 1 := Fin.ext (show c.val = 0 + 1 * c.val by omega)
    have e2 : q = ⟨((piece8 gp q).1.emb (ix3 0 c r) 2).val / 128, by
        have : ((piece8 gp q).1.emb (ix3 0 c r) 2).val < 1024 := ((piece8 gp q).1.emb (ix3 0 c r) 2).isLt; omega⟩ :=
      Fin.ext (show q.val = (128 * q.val + 1 * r.val) / 128 by omega)
    refine congrArg₂ Spec.code ((h q r c).trans (congrArg₂ hb e0 e1)) (Eq.trans ?_ (congrArg₂ (colS hb) e2 e1))
    exact congrArg Scale.scale (congrArg Spec.peak (funext fun l => h q l c))
  · refine ⟨_, (mem_groups _ _).2 ⟨⟨R.val / 128, by omega⟩, rfl⟩, (Rect.mem_set_unit (inb := inb8 _)).2 fun a => ?_⟩
    match a with
    | 0 => exact ⟨le_refl 0, Nat.zero_lt_one⟩
    | 1 => show 0 ≤ c.val ∧ c.val < 0 + 128; omega
    | 2 => show 128 * (R.val / 128) ≤ R.val ∧ R.val < 128 * (R.val / 128) + 128; omega

/-- Output 9: the scales of the transposed codes. -/
theorem canon9 (gp : FVec Ideal S1024x256 .f32) (hb : Fin 1024 → Fin 128 → EReal) (h : Holds gp hb) (q : Fin 8) (c : Fin 128) :
    View.canon (groups (piece9 gp)) (ix3 0 q c) = colS hb q c := by
  refine (View.canon_apply_of_pieces (fun y : S1x8x128.Idx => colS hb (y 1) (y 2)) _ ?_ _ ?_).trans rfl
  · intro p hp x
    obtain ⟨q, rfl⟩ := (mem_groups _ _).1 hp
    obtain ⟨z0, z1, c, rfl⟩ : ∃ (z0 z1 : Fin 1) (c : Fin 128), x = ix3 z0 z1 c := ⟨x 0, x 1, x 2, eq_ix3 x⟩
    obtain rfl := Subsingleton.elim z0 0
    obtain rfl := Subsingleton.elim z1 0
    refine (htScales_apply _ c).trans ?_
    have e1 : c = (piece9 gp q).1.emb (ix3 0 0 c) 2 := Fin.ext (show c.val = 0 + 1 * c.val by omega)
    have e2 : q = (piece9 gp q).1.emb (ix3 0 0 c) 1 := Fin.ext (show q.val = q.val + 1 * 0 by omega)
    refine Eq.trans ?_ (congrArg₂ (colS hb) e2 e1)
    exact congrArg Scale.scale (congrArg Spec.peak (funext fun l => h q l c))
  · refine ⟨_, (mem_groups _ _).2 ⟨q, rfl⟩, (Rect.mem_set_unit (inb := inb9 _)).2 fun a => ?_⟩
    match a with
    | 0 => exact ⟨le_refl 0, Nat.zero_lt_one⟩
    | 1 => show q.val ≤ q.val ∧ q.val < q.val + 1; omega
    | 2 => show 0 ≤ c.val ∧ c.val < 0 + 128; omega

/-- The activations of a point whose scratch holds `a`. -/
theorem holds (i : grid0.Coords) (w2 w3 : Memref sig .tc .vmem S4096x128 .fp8e4m3) (hw2 : w2.IsWhole) (hw3 : w3.IsWhole)
    (s4 s5 : Memref sig .tc .smem S32x28 .f32) (hs4 : s4.IsWhole) (hs5 : s5.IsWhole) (x2 x3 : Vec Ideal S4096x128 .fp8e4m3)
    (x4 x5 : Vec Ideal S32x28 .f32) (aw : Vec Ideal S1024x4096 .bf16) (j : Fin 28) (hj : (i 1).val = j.val) :
    Holds (product (loadW i w2 hw2 s4 hs4 x2 x4) (loadW i w3 hw3 s5 hs5 x3 x5) aw) fun R c =>
      Spec.glu (∑ k : Fin 4096, aw (ix2 R k) * (x2 (ix2 k c) * x4 (ix2 ⟨k.val / 128, by omega⟩ j)))
        (∑ k : Fin 4096, aw (ix2 R k) * (x3 (ix2 k c) * x5 (ix2 ⟨k.val / 128, by omega⟩ j))) := by
  intro q r c
  rw [hBlock_apply, product_gate, product_up]
  refine congrArg₂ Spec.glu (Finset.sum_congr rfl fun k _ => ?_) (Finset.sum_congr rfl fun k _ => ?_)
  · rw [stackW_apply i w2 hw2 s4 hs4 x2 x4 k c j hj]
  · rw [stackW_apply i w3 hw3 s5 hs5 x3 x5 k c j hj]

end Cert.KernelIdeal.Hand
-- ==== Proof.Outs.lean ====
/-
  What the two cases of the kernel's body leave in the buffers, as the contents of the lists of pieces.
-/
module

public import proofs.«01_k».proof.Proof.Runs

@[expose] public section

set_option maxRecDepth 16384

noncomputable section

namespace Cert.KernelIdeal.Hand

open Cert.KernelIdeal Cert.KernelIdeal.Gen Idealize.ShloMosaic Idealize.ShloMosaic.TcCoe Idealize.SL.Sem

/-- The widened codes a point that makes them leaves in the scratch. -/
def wide (arg2 : Memref sig .tc .vmem S1024x4096 .fp8e4m3) (harg2 : arg2.IsWhole) (arg3 : Memref sig .tc .vmem S1x32x1024 .f32)
    (harg3 : arg3.IsWhole) (x0 : Vec Ideal S1024x4096 .fp8e4m3) (x1 : Vec Ideal S1x32x1024 .f32) : Vec Ideal S1024x4096 .bf16 :=
  View.canon (down (pieceA (loadS arg3 harg3 x1) (loadA arg2 harg2 x0)) 256)

variable
  (c : Dev nD) (i : grid0.Coords) (arg2 : Memref sig .tc .vmem S1024x4096 .fp8e4m3) (harg2 : arg2.IsWhole)
  (arg3 : Memref sig .tc .vmem S1x32x1024 .f32) (harg3 : arg3.IsWhole)
  (arg4 : Memref sig .tc .vmem S4096x128 .fp8e4m3) (harg4 : arg4.IsWhole)
  (arg5 : Memref sig .tc .vmem S4096x128 .fp8e4m3) (harg5 : arg5.IsWhole)
  (arg6 : Memref sig .tc .smem S32x28 .f32) (harg6 : arg6.IsWhole)
  (arg7 : Memref sig .tc .smem S32x28 .f32) (harg7 : arg7.IsWhole)
  (arg8 : Memref sig .tc .vmem S1024x128 .fp8e4m3) (harg8 : arg8.IsWhole)
  (arg9 : Memref sig .tc .vmem S1x1x1x1024 .f32) (harg9 : arg9.IsWhole)
  (arg10 : Memref sig .tc .vmem S1x128x1024 .fp8e4m3) (harg10 : arg10.IsWhole)
  (arg11 : Memref sig .tc .vmem S1x8x128 .f32) (harg11 : arg11.IsWhole)
  (arg12 : Memref sig .tc .vmem S1024x4096 .bf16) (harg12 : arg12.IsWhole)
  (x0 : Vec Ideal S1024x4096 .fp8e4m3) (x1 : Vec Ideal S1x32x1024 .f32) (x2 x3 : Vec Ideal S4096x128 .fp8e4m3)
  (x4 x5 : Vec Ideal S32x28 .f32) (xs0 : Vec Ideal S1024x4096 .bf16)

/-- The scratch read back through a whole load, after stores. -/
theorem readCov_whole (v : View sig .tc .vmem S1024x4096 .bf16) (L : List (View.Piece (Elt Ideal) S1024x4096 .bf16)) :
    v.readCov (Val := Elt Ideal) L (Rect.unit (s := S1024x4096) ![0, 0] S1024x4096.size inb_S1024x4096_S1024x4096_0_0).toLoadRect =
      View.canon L := by
  rw [View.readCov_eq_canon']
  exact View.ld_unit_zero (by decide) _ (View.canon L)

/-- The scratch read through a whole load. -/
theorem readAt_whole (xs : Vec Ideal S1024x4096 .bf16) :
    View.readAt (Elt Ideal) arg12.view (Rect.unit (s := S1024x4096) ![0, 0] S1024x4096.size
      inb_S1024x4096_S1024x4096_0_0).toLoadRect (harg12.unread xs) = xs := by
  refine Eq.trans ?_ (View.ld_unit_zero (by decide) inb_S1024x4096_S1024x4096_0_0 xs)
  refine (View.readAt_eq_ld _ _ _).trans ?_
  rw [harg12.read_unread]

theorem soutA (hc0 : cond0_0 i) :
    sout0_A_0 c i arg2 harg2 arg3 harg3 arg4 harg4 arg5 harg5 arg6 harg6 arg7 harg7 arg8 harg8 arg9 harg9 arg10 harg10 arg11 harg11 arg12 harg12
      hc0 x0 x1 x2 x3 x4 x5 = wide arg2 harg2 arg3 harg3 x0 x1 := by
  unfold sout0_A_0
  rw [View.read_writes_junk_eq_canon, piecesA]
  rfl

theorem outA_6 (hc0 : cond0_0 i) :
    out0_A_6 c i arg2 harg2 arg3 harg3 arg4 harg4 arg5 harg5 arg6 harg6 arg7 harg7 arg8 harg8 arg9 harg9 arg10 harg10 arg11 harg11 arg12 harg12
      hc0 x0 x1 x2 x3 x4 x5 =
      View.canon (groups (piece6 (product (loadW i arg4 harg4 arg6 harg6 x2 x4) (loadW i arg5 harg5 arg7 harg7 x3 x5)
        (wide arg2 harg2 arg3 harg3 x0 x1)))) := by
  unfold out0_A_6
  rw [View.read_writes_junk_eq_canon, piecesA_6, readCov_whole, piecesA]
  rfl

theorem outB_6 (hc0 : ¬cond0_0 i) :
    out0_B_6 c i arg2 harg2 arg3 harg3 arg4 harg4 arg5 harg5 arg6 harg6 arg7 harg7 arg8 harg8 arg9 harg9 arg10 harg10 arg11 harg11 arg12 harg12
      hc0 x0 x1 x2 x3 x4 x5 xs0 =
      View.canon (groups (piece6 (product (loadW i arg4 harg4 arg6 harg6 x2 x4) (loadW i arg5 harg5 arg7 harg7 x3 x5) xs0))) := by
  unfold out0_B_6
  rw [View.read_writes_junk_eq_canon, piecesB_6, readAt_whole]

theorem outA_7 (hc0 : cond0_0 i) :
    out0_A_7 c i arg2 harg2 arg3 harg3 arg4 harg4 arg5 harg5 arg6 harg6 arg7 harg7 arg8 harg8 arg9 harg9 arg10 harg10 arg11 harg11 arg12 harg12
      hc0 x0 x1 x2 x3 x4 x5 =
      View.canon (groups (piece7 (product (loadW i arg4 harg4 arg6 harg6 x2 x4) (loadW i arg5 harg5 arg7 harg7 x3 x5)
        (wide arg2 harg2 arg3 harg3 x0 x1)))) := by
  unfold out0_A_7
  rw [View.read_writes_junk_eq_canon, piecesA_7, readCov_whole, piecesA]
  rfl

theorem outB_7 (hc0 : ¬cond0_0 i) :
    out0_B_7 c i arg2 harg2 arg3 harg3 arg4 harg4 arg5 harg5 arg6 harg6 arg7 harg7 arg8 harg8 arg9 harg9 arg10 harg10 arg11 harg11 arg12 harg12
      hc0 x0 x1 x2 x3 x4 x5 xs0 =
      View.canon (groups (piece7 (product (loadW i arg4 harg4 arg6 harg6 x2 x4) (loadW i arg5 harg5 arg7 harg7 x3 x5) xs0))) := by
  unfold out0_B_7
  rw [View.read_writes_junk_eq_canon, piecesB_7, readAt_whole]

theorem outA_8 (hc0 : cond0_0 i) :
    out0_A_8 c i arg2 harg2 arg3 harg3 arg4 harg4 arg5 harg5 arg6 harg6 arg7 harg7 arg8 harg8 arg9 harg9 arg10 harg10 arg11 harg11 arg12 harg12
      hc0 x0 x1 x2 x3 x4 x5 =
      View.canon (groups (piece8 (product (loadW i arg4 harg4 arg6 harg6 x2 x4) (loadW i arg5 harg5 arg7 harg7 x3 x5)
        (wide arg2 harg2 arg3 harg3 x0 x1)))) := by
  unfold out0_A_8
  rw [View.read_writes_junk_eq_canon, piecesA_8, readCov_whole, piecesA]
  rfl

theorem outB_8 (hc0 : ¬cond0_0 i) :
    out0_B_8 c i arg2 harg2 arg3 harg3 arg4 harg4 arg5 harg5 arg6 harg6 arg7 harg7 arg8 harg8 arg9 harg9 arg10 harg10 arg11 harg11 arg12 harg12
      hc0 x0 x1 x2 x3 x4 x5 xs0 =
      View.canon (groups (piece8 (product (loadW i arg4 harg4 arg6 harg6 x2 x4) (loadW i arg5 harg5 arg7 harg7 x3 x5) xs0))) := by
  unfold out0_B_8
  rw [View.read_writes_junk_eq_canon, piecesB_8, readAt_whole]

theorem outA_9 (hc0 : cond0_0 i) :
    out0_A_9 c i arg2 harg2 arg3 harg3 arg4 harg4 arg5 harg5 arg6 harg6 arg7 harg7 arg8 harg8 arg9 harg9 arg10 harg10 arg11 harg11 arg12 harg12
      hc0 x0 x1 x2 x3 x4 x5 =
      View.canon (groups (piece9 (product (loadW i arg4 harg4 arg6 harg6 x2 x4) (loadW i arg5 harg5 arg7 harg7 x3 x5)
        (wide arg2 harg2 arg3 harg3 x0 x1)))) := by
  unfold out0_A_9
  rw [View.read_writes_junk_eq_canon, piecesA_9, readCov_whole, piecesA]
  rfl

theorem outB_9 (hc0 : ¬cond0_0 i) :
    out0_B_9 c i arg2 harg2 arg3 harg3 arg4 harg4 arg5 harg5 arg6 harg6 arg7 harg7 arg8 harg8 arg9 harg9 arg10 harg10 arg11 harg11 arg12 harg12
      hc0 x0 x1 x2 x3 x4 x5 xs0 =
      View.canon (groups (piece9 (product (loadW i arg4 harg4 arg6 harg6 x2 x4) (loadW i arg5 harg5 arg7 harg7 x3 x5) xs0))) := by
  unfold out0_B_9
  rw [View.read_writes_junk_eq_canon, piecesB_9, readAt_whole]

end Cert.KernelIdeal.Hand
-- ==== Proof.Refs.lean ====
/-
  The reference's results read at an index.
-/
module

public import proofs.«01_k».proof.Proof.Spec
public import proofs.«01_k».proof.Proof.Gen.ReferenceIdeal.Value
public import Idealize.ShloMosaic.Lib.Pointwise

@[expose] public section

set_option maxRecDepth 16384

noncomputable section

namespace Cert.ReferenceIdeal.Hand

open Cert.ReferenceIdeal Cert.ReferenceIdeal.Gen Idealize.ShloMosaic Idealize.ShloMosaic.TcCoe Idealize.SL.Sem

theorem table (x : Fin 252) : (FloatOps.exp2 (FloatOps.sitofp FTy.f32 (IntOp.subi (BitVec.ofNat 32 x.val) 125#32)) : Ideal .f32) =
    Ideal.exp2 (((x : ℕ) : ℝ) - 125 : ℝ) := by
  have e : ∀ x : Fin 252, (IntOp.subi (BitVec.ofNat 32 x.val) 125#32).toInt = (x.val : ℤ) - 125 := by decide +kernel
  show Ideal.exp2 (((IntOp.subi (BitVec.ofNat 32 x.val) 125#32).toInt : ℝ) : EReal) = _
  rw [e]
  push_cast
  rfl

theorem pay7_apply (t : FVec Ideal S3x2048x28 .f32) (b : Fin 3) (s : Fin 2048) (n : Fin 28) :
    k0_pay7 t k0_pay6 (ix3 b s n) = Scale.scale (t (ix3 b s n)) := by
  pointwise [k0_pay7, k0_pay6, Scale.scale, Scale.entry, table]

/-- The activations. -/
theorem act_apply (v0 : Vec Ideal S6144x4096 .fp8e4m3) (v3 : Vec Ideal S3x32x2048 .f32) (v10 : Vec Ideal S4096x3584 .fp8e4m3)
    (v13 : Vec Ideal S32x28 .f32) (v20 : Vec Ideal S4096x3584 .fp8e4m3) (v23 : Vec Ideal S32x28 .f32) (r : Fin 6144) (f : Fin 3584) :
    k0_pay3 v0 v3 v10 v13 v20 v23 (ix2 r f) =
      Spec.act (Spec.lhs (fun r k => v0 (ix2 r k)) fun b k s => v3 (ix3 b k s))
        (Spec.rhs (fun k f => v10 (ix2 k f)) fun k n => v13 (ix2 k n))
        (Spec.rhs (fun k f => v20 (ix2 k f)) fun k n => v23 (ix2 k n)) r f := by
  pointwise [k0_pay3, Spec.act, Spec.lhs, Spec.rhs, Spec.glu]

/-- The maximum over the last axis of the rows is a fold. -/
theorem fold3 (z : FVec Ideal S3x2048x28x128 .f32) (b : Fin 3) (s : Fin 2048) (n : Fin 28) :
    multiReduction .maximumf [3] S3x2048x28 z 0xFF800000#32 reduces_S3x2048x28x128_S3x2048x28 (.inl rfl) rfl (ix3 b s n) =
      Finset.univ.fold max (Ideal.ofBits .f32 0xFF800000#32) fun l : Fin 128 => z (ix4 b s n l) := by
  refine (multiReduction_maximumf_eq_fold z _ _ (.inl rfl) rfl _).trans ?_
  rw [Shape.Reduces.fold_fiber_r4_a3]
  rfl

/-- The maximum over the third axis of the columns is a fold. -/
theorem fold2 (z : FVec Ideal S3x16x128x3584 .f32) (b : Fin 3) (q : Fin 16) (f : Fin 3584) :
    multiReduction .maximumf [2] S3x16x3584 z 0xFF800000#32 reduces_S3x16x128x3584_S3x16x3584 (.inl rfl) rfl (ix3 b q f) =
      Finset.univ.fold max (Ideal.ofBits .f32 0xFF800000#32) fun l : Fin 128 => z (ix4 b q l f) := by
  refine (multiReduction_maximumf_eq_fold z _ _ (.inl rfl) rfl _).trans ?_
  rw [Shape.Reduces.fold_fiber_r4_a2]
  rfl

/-- The activations split along both axes. -/
theorem pay4c (h : FVec Ideal S6144x3584 .f32) (b : Fin 3) (s : Fin 2048) (n : Fin 28) (l : Fin 128) (r : Fin 6144) (f : Fin 3584)
    (hr : r.val = 2048 * b.val + s.val) (hf : f.val = 128 * n.val + l.val) :
    shapeCast S3x2048x28x128 h shapeCasts_S6144x3584_S3x2048x28x128 (ix4 b s n l) = h (ix2 r f) := by
  pointwise []
  refine congrArg h (congrArg₂ ix2 (Fin.ext ?_) (Fin.ext ?_))
  · simp only; omega
  · simp only; omega

/-- The activations split along rows into groups of 128. -/
theorem pay10_apply (h : FVec Ideal S6144x3584 .f32) (b : Fin 3) (q : Fin 16) (f : Fin 3584)  (l : Fin 128) (r : Fin 6144)
    (hr : r.val = 2048 * b.val + 128 * q.val + l.val) :
    k0_pay10 h (ix4 b q l f) = h (ix2 r f) := by
  pointwise [k0_pay10]
  refine congrArg h (congrArg₂ ix2 (Fin.ext ?_) rfl)
  simp only; omega

/-- The scale of a peak along columns. -/
theorem pay1_apply (z : FVec Ideal S3x16x3584 .f32) (b : Fin 3) (q : Fin 16) (f : Fin 3584) :
    k0_pay1 z k0_pay12 k0_pay13 (broadcastTo S3x16x3584x252 (shapeCast S3x16x3584x1 z shapeCasts_S3x16x3584_S3x16x3584x1)
      broadcasts_S3x16x3584x1_S3x16x3584x252) (ix3 b q f) = Scale.scale (z (ix3 b q f)) := by
  pointwise [k0_pay1, k0_pay12, k0_pay13, Scale.scale, Scale.entry, table]

/-- The codes along rows. -/
theorem pay8_apply (z : FVec Ideal S3x2048x28x128 .f32) (t : FVec Ideal S3x2048x28 .f32) (r : Fin 6144) (f : Fin 3584) :
    k0_pay8 z t k0_pay6 (ix2 r f) =
      Spec.code (z (ix4 ⟨r.val / 2048, by omega⟩ ⟨r.val % 2048, by omega⟩ ⟨f.val / 128, by omega⟩ ⟨f.val % 128, by omega⟩))
        (Scale.scale (t (ix3 ⟨r.val / 2048, by omega⟩ ⟨r.val % 2048, by omega⟩ ⟨f.val / 128, by omega⟩))) := by
  rw [← pay7_apply]
  unfold k0_pay8
  generalize k0_pay7 t k0_pay6 = y
  pointwise [Spec.code]

/-- The scales along rows. -/
theorem pay9_apply (t : FVec Ideal S3x2048x28 .f32) (b : Fin 3) (s : Fin 2048) (n : Fin 28) :
    k0_pay9 t k0_pay6 (ix4 b n 0 s) = Scale.scale (t (ix3 b s n)) := by
  rw [← pay7_apply]
  unfold k0_pay9
  generalize k0_pay7 t k0_pay6 = y
  pointwise []

/-- The codes along columns. -/
theorem pay2_apply (v71 : FVec Ideal S3x16x128x3584 .f32) (v75 : FVec Ideal S3x16x3584 .f32) (v80 : FVec Ideal S1x1x1x252 .f32) (v82 v83 : FVec Ideal S3x16x3584x252 .f32)
    (b : Fin 3) (s : Fin 2048) (f : Fin 3584) :
    k0_pay2 v71 v75 v80 v82 v83 (ix3 b f s) = Spec.code (v71 (ix4 b ⟨s.val / 128, by omega⟩ ⟨s.val % 128, by omega⟩ f))
       (k0_pay1 v75 v80 v82 v83 (ix3 b ⟨s.val / 128, by omega⟩ f)) := by
  unfold k0_pay2
  generalize k0_pay1 v75 v80 v82 v83 = y
  pointwise [Spec.code]

/-- The first layer's activations of the six arguments. -/
def H (a0 : Vec Ideal S6144x4096 .fp8e4m3) (a1 : Vec Ideal S3x32x2048 .f32) (a2 a3 : Vec Ideal S4096x3584 .fp8e4m3)
    (a4 a5 : Vec Ideal S32x28 .f32) : Fin 6144 → Fin 3584 → EReal :=
  Spec.act (Spec.lhs (fun r k => a0 (ix2 r k)) fun b k s => a1 (ix3 b k s))
    (Spec.rhs (fun k f => a2 (ix2 k f)) fun k n => a4 (ix2 k n)) (Spec.rhs (fun k f => a3 (ix2 k f)) fun k n => a5 (ix2 k n))

theorem pay15_apply (a0 : Vec Ideal S6144x4096 .fp8e4m3) (a1 : Vec Ideal S3x32x2048 .f32) (a2 a3 : Vec Ideal S4096x3584 .fp8e4m3)
    (a4 a5 : Vec Ideal S32x28 .f32) (r : Fin 6144) (f : Fin 3584) :
    k0_pay15 a0 a1 a2 a3 a4 a5 (ix2 r f) = H a0 a1 a2 a3 a4 a5 r f := by
  unfold k0_pay15
  rw [View.ld_unit_zero (by decide), View.ld_unit_zero (by decide), View.ld_unit_zero (by decide), View.ld_unit_zero (by decide),
    View.ld_unit_zero (by decide), View.ld_unit_zero (by decide)]
  exact act_apply a0 a1 a2 a4 a3 a5 r f

theorem pay4_eq (a0 : Vec Ideal S6144x4096 .fp8e4m3) (a1 : Vec Ideal S3x32x2048 .f32) (a2 a3 : Vec Ideal S4096x3584 .fp8e4m3)
    (a4 a5 : Vec Ideal S32x28 .f32) (b : Fin 3) (s : Fin 2048) (n : Fin 28) (l : Fin 128) (r : Fin 6144) (f : Fin 3584)
    (hr : r.val = 2048 * b.val + s.val) (hf : f.val = 128 * n.val + l.val) :
    k0_pay4 a0 a1 a2 a4 a3 a5 (ix4 b s n l) = H a0 a1 a2 a3 a4 a5 r f :=
  (pay4c (k0_pay3 a0 a1 a2 a4 a3 a5) b s n l r f hr hf).trans (act_apply a0 a1 a2 a4 a3 a5 r f)

theorem mul_at {s : Shape} (x : FVec Ideal s .f32) (y : EReal) (i : s.Idx) :
    mulf x (broadcast s (y : Ideal .f32)) i = (x i : EReal) * y := rfl

theorem peak3 (z : FVec Ideal S3x2048x28x128 .f32) (b : Fin 3) (s : Fin 2048) (n : Fin 28) :
    mulf (multiReduction .maximumf [3] S3x2048x28 (absf z) 0xFF800000#32 reduces_S3x2048x28x128_S3x2048x28 (.inl rfl) rfl)
      (broadcast S3x2048x28 (Scalar.ofBits (F := Ideal) .f32 0x3B124925#32)) (ix3 b s n) = Spec.peak fun l => z (ix4 b s n l) := by
  refine (mul_at _ _ _).trans ?_
  rw [fold3, Spec.peak]
  congr 1

theorem peak2 (z : FVec Ideal S3x16x128x3584 .f32) (b : Fin 3) (q : Fin 16) (f : Fin 3584) :
    mulf (multiReduction .maximumf [2] S3x16x3584 (absf z) 0xFF800000#32 reduces_S3x16x128x3584_S3x16x3584 (.inl rfl) rfl)
      (broadcast S3x16x3584 (Scalar.ofBits (F := Ideal) .f32 0x3B124925#32)) (ix3 b q f) = Spec.peak fun l => z (ix4 b q l f) := by
  refine (mul_at _ _ _).trans ?_
  rw [fold2, Spec.peak]
  congr 1

/-- The greatest magnitude of a row's block, over 448. -/
theorem pay16_apply (a0 : Vec Ideal S6144x4096 .fp8e4m3) (a1 : Vec Ideal S3x32x2048 .f32) (a2 a3 : Vec Ideal S4096x3584 .fp8e4m3)
    (a4 a5 : Vec Ideal S32x28 .f32) (b : Fin 3) (s : Fin 2048) (n : Fin 28) (r : Fin 6144) (hr : r.val = 2048 * b.val + s.val) :
    k0_pay16 a0 a1 a2 a3 a4 a5 (ix3 b s n) = Spec.peak fun l => H a0 a1 a2 a3 a4 a5 r ⟨128 * n.val + l.val, by omega⟩ := by
  unfold k0_pay16
  rw [View.ld_unit_zero (by decide), View.ld_unit_zero (by decide), View.ld_unit_zero (by decide), View.ld_unit_zero (by decide),
    View.ld_unit_zero (by decide), View.ld_unit_zero (by decide)]
  unfold k0_pay5
  have e := fun l => pay4_eq a0 a1 a2 a3 a4 a5 b s n l r ⟨128 * n.val + l.val, by omega⟩ hr rfl
  generalize k0_pay4 a0 a1 a2 a4 a3 a5 = z at e ⊢
  exact (peak3 z b s n).trans (congrArg Spec.peak (funext e))

/-- The greatest magnitude of a column's block, over 448. -/
theorem pay11_apply (a0 : Vec Ideal S6144x4096 .fp8e4m3) (a1 : Vec Ideal S3x32x2048 .f32) (a2 a3 : Vec Ideal S4096x3584 .fp8e4m3)
    (a4 a5 : Vec Ideal S32x28 .f32) (b : Fin 3) (q : Fin 16) (f : Fin 3584) (n : Fin 48) (hn : n.val = 16 * b.val + q.val) :
    k0_pay11 (k0_pay15 a0 a1 a2 a3 a4 a5) (ix3 b q f) = Spec.peak fun l => H a0 a1 a2 a3 a4 a5 ⟨128 * n.val + l.val, by omega⟩ f := by
  have e : ∀ l : Fin 128, k0_pay10 (k0_pay15 a0 a1 a2 a3 a4 a5) (ix4 b q l f) = H a0 a1 a2 a3 a4 a5 ⟨128 * n.val + l.val, by omega⟩ f :=
    fun l => (pay10_apply _ b q f l ⟨128 * n.val + l.val, by omega⟩ (by simp only; omega)).trans (pay15_apply a0 a1 a2 a3 a4 a5 _ f)
  unfold k0_pay11
  generalize k0_pay10 (k0_pay15 a0 a1 a2 a3 a4 a5) = z at e ⊢
  exact (peak2 z b q f).trans (congrArg Spec.peak (funext e))

/-- The codes. -/
theorem G6_apply (a0 : Vec Ideal S6144x4096 .fp8e4m3) (a1 : Vec Ideal S3x32x2048 .f32) (a2 a3 : Vec Ideal S4096x3584 .fp8e4m3)
    (a4 a5 : Vec Ideal S32x28 .f32) (r : Fin 6144) (f : Fin 3584) :
    Value.G6 a0 a1 a2 a3 a4 a5 (ix2 r f) =
      Spec.code (H a0 a1 a2 a3 a4 a5 r f) (Spec.rowScale (H a0 a1 a2 a3 a4 a5) r ⟨f.val / 128, by omega⟩) := by
  refine (pay8_apply _ _ r f).trans ?_
  rw [pay4_eq a0 a1 a2 a3 a4 a5 _ _ _ _ r f (by simp only; omega) (by simp only; omega),
    pay16_apply a0 a1 a2 a3 a4 a5 _ _ _ r (by simp only; omega)]
  rfl

/-- The scales of the codes. -/
theorem G7_apply (a0 : Vec Ideal S6144x4096 .fp8e4m3) (a1 : Vec Ideal S3x32x2048 .f32) (a2 a3 : Vec Ideal S4096x3584 .fp8e4m3)
    (a4 a5 : Vec Ideal S32x28 .f32) (b : Fin 3) (s : Fin 2048) (n : Fin 28) (r : Fin 6144) (hr : r.val = 2048 * b.val + s.val) :
    Value.G7 a0 a1 a2 a3 a4 a5 (ix4 b n 0 s) = Spec.rowScale (H a0 a1 a2 a3 a4 a5) r n := by
  refine (pay9_apply _ b s n).trans ?_
  rw [pay16_apply a0 a1 a2 a3 a4 a5 _ _ _ r hr]
  rfl

/-- The scales of the transposed codes. -/
theorem G9_apply (a0 : Vec Ideal S6144x4096 .fp8e4m3) (a1 : Vec Ideal S3x32x2048 .f32) (a2 a3 : Vec Ideal S4096x3584 .fp8e4m3)
    (a4 a5 : Vec Ideal S32x28 .f32) (b : Fin 3) (q : Fin 16) (f : Fin 3584) (n : Fin 48) (hn : n.val = 16 * b.val + q.val) :
    Value.G9 a0 a1 a2 a3 a4 a5 (ix3 b q f) = Spec.colScale (H a0 a1 a2 a3 a4 a5) n f := by
  refine (pay1_apply (k0_pay11 (k0_pay15 a0 a1 a2 a3 a4 a5)) b q f).trans ?_
  rw [pay11_apply a0 a1 a2 a3 a4 a5 b q f n hn]
  rfl

/-- The transposed codes. -/
theorem G8_apply (a0 : Vec Ideal S6144x4096 .fp8e4m3) (a1 : Vec Ideal S3x32x2048 .f32) (a2 a3 : Vec Ideal S4096x3584 .fp8e4m3)
    (a4 a5 : Vec Ideal S32x28 .f32) (b : Fin 3) (s : Fin 2048) (f : Fin 3584) (r : Fin 6144) (hr : r.val = 2048 * b.val + s.val) :
    Value.G8 a0 a1 a2 a3 a4 a5 (ix3 b f s) =
      Spec.code (H a0 a1 a2 a3 a4 a5 r f) (Spec.colScale (H a0 a1 a2 a3 a4 a5) ⟨r.val / 128, by omega⟩ f) := by
  refine (pay2_apply _ _ _ _ _ b s f).trans ?_
  refine congrArg₂ Spec.code ((pay10_apply _ b _ f _ r (by simp only; omega)).trans (pay15_apply a0 a1 a2 a3 a4 a5 r f)) ?_
  exact G9_apply a0 a1 a2 a3 a4 a5 b _ f _ (by simp only; omega)

end Cert.ReferenceIdeal.Hand
-- ==== Proof.Points.lean ====
/-
  What each grid point leaves in its buffers, as entries of the activations' codes and scales.
-/
module

public import proofs.«01_k».proof.Proof.Tiles
public import proofs.«01_k».proof.Proof.Outs
public import proofs.«01_k».proof.Proof.Refs
public import proofs.«01_k».proof.Proof.Gen.KernelIdeal.Value

@[expose] public section

set_option maxRecDepth 16384

noncomputable section

namespace Cert.KernelIdeal.Hand

open Cert.KernelIdeal Cert.KernelIdeal.Gen Idealize.ShloMosaic Idealize.ShloMosaic.TcCoe Idealize.SL.Sem

variable (m : (ℓ : Loc nD τ sig) → Buf (Elt Ideal) ℓ) (c : Dev nD)

/-- The blocks of a point. -/
theorem index (t : Fin cfg0.N) :
    win0_0.index t = ![t.val / 28, 0] ∧ win0_1.index t = ![t.val / 28 / 2, 0, t.val / 28 % 2] ∧
      win0_2.index t = ![0, t.val % 28] ∧ win0_3.index t = ![0, t.val % 28] ∧ win0_4.index t = ![0, 0] ∧ win0_5.index t = ![0, 0] :=
  (by decide +kernel : ∀ t : Fin grid0.N, win0_0.index t = ![t.val / 28, 0] ∧ win0_1.index t = ![t.val / 28 / 2, 0, t.val / 28 % 2] ∧
      win0_2.index t = ![0, t.val % 28] ∧ win0_3.index t = ![0, t.val % 28] ∧ win0_4.index t = ![0, 0] ∧ win0_5.index t = ![0, 0]) t

/-- The blocks a point writes. -/
theorem index' (t : Fin cfg0.N) :
    win0_6.index t = ![t.val / 28, t.val % 28] ∧ win0_7.index t = ![t.val / 28 / 2, t.val % 28, 0, t.val / 28 % 2] ∧
      win0_8.index t = ![t.val / 28 / 2, t.val % 28, t.val / 28 % 2] ∧ win0_9.index t = ![t.val / 28 / 2, t.val / 28 % 2, t.val % 28] :=
  (by decide +kernel : ∀ t : Fin grid0.N, win0_6.index t = ![t.val / 28, t.val % 28] ∧
      win0_7.index t = ![t.val / 28 / 2, t.val % 28, 0, t.val / 28 % 2] ∧
      win0_8.index t = ![t.val / 28 / 2, t.val % 28, t.val / 28 % 2] ∧ win0_9.index t = ![t.val / 28 / 2, t.val / 28 % 2, t.val % 28]) t

/-- The block of the codes. -/
theorem block0 (t : Fin cfg0.N) (R : Fin 1024) (k : Fin 4096) (r : Fin 6144) (hr : r.val = 1024 * (t.val / 28) + R.val) :
    iblk m c 0 t (ix2 R k) = V m c main_arg0 (ix2 r k) := by
  blk_ext [iblk, (index t).1]

/-- The block of their scales. -/
theorem block1 (t : Fin cfg0.N) (k : Fin 32) (R : Fin 1024) (b : Fin 3) (s : Fin 2048) (hb : b.val = t.val / 28 / 2)
    (hs : s.val = 1024 * (t.val / 28 % 2) + R.val) :
    iblk m c 1 t (ix3 0 k R) = V m c main_arg1 (ix3 b k s) := by
  blk_ext [iblk, (index t).2.1]

/-- The block of the gate's weight. -/
theorem block2 (t : Fin cfg0.N) (k : Fin 4096) (l : Fin 128) (f : Fin 3584) (hf : f.val = 128 * (t.val % 28) + l.val) :
    iblk m c 2 t (ix2 k l) = V m c main_arg2 (ix2 k f) := by
  blk_ext [iblk, (index t).2.2.1]

/-- The block of the up projection's weight. -/
theorem block3 (t : Fin cfg0.N) (k : Fin 4096) (l : Fin 128) (f : Fin 3584) (hf : f.val = 128 * (t.val % 28) + l.val) :
    iblk m c 3 t (ix2 k l) = V m c main_arg4 (ix2 k f) := by
  blk_ext [iblk, (index t).2.2.2.1]

/-- The gate's scales. -/
theorem block4 (t : Fin cfg0.N) (k : Fin 32) (j : Fin 28) : iblk m c 4 t (ix2 k j) = V m c main_arg3 (ix2 k j) := by
  blk_ext [iblk, (index t).2.2.2.2.1]

/-- The up projection's scales. -/
theorem block5 (t : Fin cfg0.N) (k : Fin 32) (j : Fin 28) : iblk m c 5 t (ix2 k j) = V m c main_arg5 (ix2 k j) := by
  blk_ext [iblk, (index t).2.2.2.2.2]

/-- The number of points. -/
theorem lt_points (t : Fin cfg0.N) : t.val < 168 := lt_of_lt_of_eq t.isLt N_0

/-- The second coordinate of a point. -/
theorem coord1 (t : Fin cfg0.N) : (grid0.coords t 1).val = t.val % 28 :=
  (by decide +kernel : ∀ t : Fin grid0.N, (grid0.coords t 1).val = t.val % 28) t

/-- The row of the activations that a point's row `R` is. -/
def rowOf (t : Fin cfg0.N) (R : Fin 1024) : Fin 6144 := ⟨1024 * (t.val / 28) + R.val, by have := lt_points t; omega⟩

/-- The column of the activations that a point's column `l` is. -/
def colOf (t : Fin cfg0.N) (l : Fin 128) : Fin 3584 := ⟨128 * (t.val % 28) + l.val, by omega⟩

/-- The activations of the arguments. -/
def acts : Fin 6144 → Fin 3584 → EReal :=
  Cert.ReferenceIdeal.Hand.H (V m c main_arg0) (V m c main_arg1) (V m c main_arg2) (V m c main_arg4) (V m c main_arg3)
    (V m c main_arg5)

/-- The activations of a point. -/
def tile (t : Fin cfg0.N) (R : Fin 1024) (l : Fin 128) : EReal := acts m c (rowOf t R) (colOf t l)

/-- The scratch holds the widened codes of the point's rows. -/
def Wide (t : Fin cfg0.N) (aw : Vec Ideal S1024x4096 .bf16) : Prop :=
  ∀ (R : Fin 1024) (k : Fin 4096), aw (ix2 R k) =
    Spec.lhs (fun r k => V m c main_arg0 (ix2 r k)) (fun b k s => V m c main_arg1 (ix3 b k s)) (rowOf t R) k

/-- What a point that widens the codes leaves in the scratch. -/
theorem wide_point (t : Fin cfg0.N) :
    Wide m c t (wide (ms0_0 t) (hs0_0 t) (ms0_1 t) (hs0_1 t) (iblk m c 0 t) (iblk m c 1 t)) := by
  intro R k
  have ht := lt_points t
  refine (canonA (ms0_0 t) (hs0_0 t) (iblk m c 0 t) (ms0_1 t) (hs0_1 t) (iblk m c 1 t) R k).trans ?_
  refine congrArg₂ (fun x y : EReal => x * y) (block0 m c t R k (rowOf t R) rfl) ?_
  refine block1 m c t ⟨k.val / 128, by omega⟩ R ⟨(rowOf t R).val / 2048, by omega⟩ ⟨(rowOf t R).val % 2048, by omega⟩ ?_ ?_
  · show (1024 * (t.val / 28) + R.val) / 2048 = t.val / 28 / 2
    omega
  · show (1024 * (t.val / 28) + R.val) % 2048 = 1024 * (t.val / 28 % 2) + R.val
    omega

/-- The products of a point. -/
def prods (t : Fin cfg0.N) (aw : Vec Ideal S1024x4096 .bf16) :=
  product (loadW (grid0.coords t) (ms0_2 t) (hs0_2 t) (ms0_4 t) (hs0_4 t) (iblk m c 2 t) (iblk m c 4 t))
    (loadW (grid0.coords t) (ms0_3 t) (hs0_3 t) (ms0_5 t) (hs0_5 t) (iblk m c 3 t) (iblk m c 5 t)) aw

/-- The activations that a point computes. -/
theorem holds_point (t : Fin cfg0.N) (aw : Vec Ideal S1024x4096 .bf16) (h : Wide m c t aw) :
    Holds (prods m c t aw) (tile m c t) := by
  intro q r l
  refine (holds (grid0.coords t) (ms0_2 t) (ms0_3 t) (hs0_2 t) (hs0_3 t) (ms0_4 t) (ms0_5 t) (hs0_4 t) (hs0_5 t) (iblk m c 2 t)
    (iblk m c 3 t) (iblk m c 4 t) (iblk m c 5 t) aw ⟨t.val % 28, by omega⟩ (coord1 t) q r l).trans ?_
  have hj : (⟨(colOf t l).val / 128, by omega⟩ : Fin 28) = ⟨t.val % 28, by omega⟩ := Fin.ext (by
    show (128 * (t.val % 28) + l.val) / 128 = t.val % 28
    omega)
  refine congrArg₂ Spec.glu (Finset.sum_congr rfl fun k _ => ?_) (Finset.sum_congr rfl fun k _ => ?_)
  · rw [h, block2 m c t k l (colOf t l) rfl, block4, Spec.rhs, hj]
  · rw [h, block3 m c t k l (colOf t l) rfl, block5, Spec.rhs, hj]

/-- What a point leaves in the outputs and in the scratch. -/
theorem point_case (t : Fin cfg0.N) : ∃ aw, outsAt0 m c t.val t.isLt =
      (View.canon (groups (piece6 (prods m c t aw))), View.canon (groups (piece7 (prods m c t aw))),
        View.canon (groups (piece8 (prods m c t aw))), View.canon (groups (piece9 (prods m c t aw))), aw) ∧
      (t.val % 28 = 0 ∧ aw = wide (ms0_0 t) (hs0_0 t) (ms0_1 t) (hs0_1 t) (iblk m c 0 t) (iblk m c 1 t) ∨
        ¬ t.val % 28 = 0 ∧ aw = (outsAt0 m c (t.val - 1) (Nat.lt_of_le_of_lt (Nat.sub_le _ _) t.isLt)).2.2.2.2) := by
  by_cases h0 : t.val % 28 = 0
  · refine ⟨_, ?_, .inl ⟨h0, rfl⟩⟩
    rw [outsAt0_A m c t h0, outA_6, outA_7, outA_8, outA_9, soutA]
    rfl
  · refine ⟨_, ?_, .inr ⟨h0, rfl⟩⟩
    rw [outsAt0_B m c t h0, outB_6, outB_7, outB_8, outB_9]
    rfl

/-- The scratch holds the widened codes after every point. -/
theorem scratch (n : ℕ) (hn : n < cfg0.N) : Wide m c ⟨n, hn⟩ (outsAt0 m c n hn).2.2.2.2 := by
  induction n with
  | zero =>
    obtain ⟨aw, he, ⟨_, ha⟩ | ⟨hne, _⟩⟩ := point_case m c ⟨0, hn⟩
    · have h4 : (outsAt0 m c 0 hn).2.2.2.2 = aw := congrArg (fun x => x.2.2.2.2) he
      rw [h4, ha]
      exact wide_point m c ⟨0, hn⟩
    · exact absurd (Nat.zero_mod 28) hne
  | succ n ih =>
    obtain ⟨aw, he, ⟨_, ha⟩ | ⟨hne, ha⟩⟩ := point_case m c ⟨n + 1, hn⟩
    · have h4 : (outsAt0 m c (n + 1) hn).2.2.2.2 = aw := congrArg (fun x => x.2.2.2.2) he
      rw [h4, ha]
      exact wide_point m c ⟨n + 1, hn⟩
    · have h4 : (outsAt0 m c (n + 1) hn).2.2.2.2 = aw := congrArg (fun x => x.2.2.2.2) he
      rw [h4, ha]
      intro R k
      refine (ih (Nat.lt_of_succ_lt hn) R k).trans ?_
      have hr : rowOf ⟨n, Nat.lt_of_succ_lt hn⟩ R = rowOf ⟨n + 1, hn⟩ R := Fin.ext (by
        show 1024 * (n / 28) + R.val = 1024 * ((n + 1) / 28) + R.val
        have : ¬ (n + 1) % 28 = 0 := hne
        omega)
      rw [hr]

/-- What a point leaves in the outputs, from the widened codes. -/
theorem point_wide (t : Fin cfg0.N) : ∃ aw, Wide m c t aw ∧ outsAt0 m c t.val t.isLt =
    (View.canon (groups (piece6 (prods m c t aw))), View.canon (groups (piece7 (prods m c t aw))),
      View.canon (groups (piece8 (prods m c t aw))), View.canon (groups (piece9 (prods m c t aw))), aw) := by
  obtain ⟨aw, he, _⟩ := point_case m c t
  have h4 : (outsAt0 m c t.val t.isLt).2.2.2.2 = aw := congrArg (fun x => x.2.2.2.2) he
  refine ⟨aw, ?_, he⟩
  rw [← h4]
  exact scratch m c t.val t.isLt

/-- The first four parts of a tuple. -/
theorem parts {α β γ δ ε : Type} {x : α × β × γ × δ × ε} {x1 : α} {x2 : β} {x3 : γ} {x4 : δ} {x5 : ε}
    (h : x = (x1, x2, x3, x4, x5)) : x.1 = x1 ∧ x.2.1 = x2 ∧ x.2.2.1 = x3 ∧ x.2.2.2.1 = x4 := by
  subst h
  exact ⟨rfl, rfl, rfl, rfl⟩

/-- What a point leaves in the outputs, from its activations. -/
theorem point (t : Fin cfg0.N) : ∃ gp : FVec Ideal S1024x256 .f32, Holds gp (tile m c t) ∧
    (outsAt0 m c t.val t.isLt).1 = View.canon (groups (piece6 gp)) ∧ (outsAt0 m c t.val t.isLt).2.1 = View.canon (groups (piece7 gp)) ∧
      (outsAt0 m c t.val t.isLt).2.2.1 = View.canon (groups (piece8 gp)) ∧
        (outsAt0 m c t.val t.isLt).2.2.2.1 = View.canon (groups (piece9 gp)) := by
  obtain ⟨aw, hw, he⟩ := point_wide m c t
  exact ⟨prods m c t aw, holds_point m c t aw hw, parts he⟩

/-- The block of 128 columns that a point's columns are. -/
theorem colOf_div (t : Fin cfg0.N) (l : Fin 128) : (colOf t l).val / 128 = t.val % 28 := by
  show (128 * (t.val % 28) + l.val) / 128 = t.val % 28
  omega

/-- A row's scale at a point is the scale of its block of columns. -/
theorem rowS_tile (t : Fin cfg0.N) (R : Fin 1024) (n : Fin 28) (hn : n.val = t.val % 28) :
    rowS (tile m c t) R = Spec.rowScale (acts m c) (rowOf t R) n := by
  refine congrArg (fun x => Scale.scale (Spec.peak x)) (funext fun l => ?_)
  refine congrArg (acts m c (rowOf t R)) (Fin.ext ?_)
  show 128 * (t.val % 28) + l.val = 128 * n.val + l.val
  omega

/-- A column's scale at a point is the scale of its block of rows. -/
theorem colS_tile (t : Fin cfg0.N) (q : Fin 8) (l : Fin 128) (n : Fin 48) (hn : n.val = 8 * (t.val / 28) + q.val) :
    colS (tile m c t) q l = Spec.colScale (acts m c) n (colOf t l) := by
  refine congrArg (fun x => Scale.scale (Spec.peak x)) (funext fun r => ?_)
  refine congrArg (fun x => acts m c x (colOf t l)) (Fin.ext ?_)
  show 1024 * (t.val / 28) + (128 * q.val + r.val) = 128 * n.val + r.val
  omega

/-- A point's codes along rows. -/
theorem point6 (t : Fin cfg0.N) (R : Fin 1024) (l : Fin 128) : (outsAt0 m c t.val t.isLt).1 (ix2 R l) =
    Cert.ReferenceIdeal.Value.G6 (V m c main_arg0) (V m c main_arg1) (V m c main_arg2) (V m c main_arg4)
    (V m c main_arg3) (V m c main_arg5) (ix2 (rowOf t R) (colOf t l)) := by
  obtain ⟨gp, hg, h, _, _, _⟩ := point m c t
  rw [h, canon6 gp _ hg, rowS_tile m c t R ⟨(colOf t l).val / 128, by omega⟩ (colOf_div t l)]
  exact (Cert.ReferenceIdeal.Hand.G6_apply _ _ _ _ _ _ (rowOf t R) (colOf t l)).symm

/-- A point's scales along rows. -/
theorem point7 (t : Fin cfg0.N) (R : Fin 1024) (b : Fin 3) (n : Fin 28) (s : Fin 2048) (hb : b.val = t.val / 28 / 2)
    (hn : n.val = t.val % 28) (hs : s.val = 1024 * (t.val / 28 % 2) + R.val) : (outsAt0 m c t.val t.isLt).2.1 (ix4 0 0 0 R) =
    Cert.ReferenceIdeal.Value.G7 (V m c main_arg0) (V m c main_arg1) (V m c main_arg2) (V m c main_arg4)
    (V m c main_arg3) (V m c main_arg5) (ix4 b n 0 s) := by
  obtain ⟨gp, hg, _, h, _, _⟩ := point m c t
  rw [h, canon7 gp _ hg, rowS_tile m c t R n hn]
  refine (Cert.ReferenceIdeal.Hand.G7_apply _ _ _ _ _ _ b s n (rowOf t R) ?_).symm
  show 1024 * (t.val / 28) + R.val = 2048 * b.val + s.val
  omega

/-- A point's codes along columns. -/
theorem point8 (t : Fin cfg0.N) (R : Fin 1024) (l : Fin 128) (b : Fin 3) (f : Fin 3584) (s : Fin 2048) (hb : b.val = t.val / 28 / 2)
    (hf : f.val = 128 * (t.val % 28) + l.val) (hs : s.val = 1024 * (t.val / 28 % 2) + R.val) :
    (outsAt0 m c t.val t.isLt).2.2.1 (ix3 0 l R) =
    Cert.ReferenceIdeal.Value.G8 (V m c main_arg0) (V m c main_arg1) (V m c main_arg2) (V m c main_arg4)
    (V m c main_arg3) (V m c main_arg5) (ix3 b f s) := by
  have hc : f = colOf t l := Fin.ext hf
  subst hc
  obtain ⟨gp, hg, _, _, h, _⟩ := point m c t
  rw [h, canon8 gp _ hg, colS_tile m c t ⟨R.val / 128, by omega⟩ l ⟨(rowOf t R).val / 128, by omega⟩ (by
    show (1024 * (t.val / 28) + R.val) / 128 = 8 * (t.val / 28) + R.val / 128
    omega)]
  refine (Cert.ReferenceIdeal.Hand.G8_apply _ _ _ _ _ _ b s (colOf t l) (rowOf t R) ?_).symm
  show 1024 * (t.val / 28) + R.val = 2048 * b.val + s.val
  omega

/-- A point's scales along columns. -/
theorem point9 (t : Fin cfg0.N) (q : Fin 8) (l : Fin 128) (b : Fin 3) (p : Fin 16) (f : Fin 3584) (hb : b.val = t.val / 28 / 2)
    (hp : p.val = 8 * (t.val / 28 % 2) + q.val) (hf : f.val = 128 * (t.val % 28) + l.val) :
    (outsAt0 m c t.val t.isLt).2.2.2.1 (ix3 0 q l) =
    Cert.ReferenceIdeal.Value.G9 (V m c main_arg0) (V m c main_arg1) (V m c main_arg2) (V m c main_arg4)
    (V m c main_arg3) (V m c main_arg5) (ix3 b p f) := by
  have hc : f = colOf t l := Fin.ext hf
  subst hc
  obtain ⟨gp, hg, _, _, _, h⟩ := point m c t
  rw [h, canon9 gp _ hg, colS_tile m c t q l ⟨16 * b.val + p.val, by omega⟩ (by
    show 16 * b.val + p.val = 8 * (t.val / 28) + q.val
    omega)]
  exact (Cert.ReferenceIdeal.Hand.G9_apply _ _ _ _ _ _ b p (colOf t l) ⟨16 * b.val + p.val, by omega⟩ rfl).symm

end Cert.KernelIdeal.Hand
-- ==== Proof.Arrays.lean ====
/-
  The arrays after the last point: the activations' codes and scales as the reference states them.
-/
module

public import proofs.«01_k».proof.Proof.Points

@[expose] public section

set_option maxRecDepth 16384

noncomputable section

namespace Cert.KernelIdeal.Hand

open Cert.KernelIdeal Cert.KernelIdeal.Gen Idealize.ShloMosaic Idealize.ShloMosaic.TcCoe Idealize.SL.Sem

variable (m : (ℓ : Loc nD τ sig) → Buf (Elt Ideal) ℓ) (c : Dev nD)

/-- The array of codes along rows. -/
theorem array6 : (dats m 0 c).arrAt 6 cfg0.N = Cert.ReferenceIdeal.Value.G6 (V m c main_arg0) (V m c main_arg1) (V m c main_arg2)
    (V m c main_arg4) (V m c main_arg3) (V m c main_arg5) := by
  refine (dats m 0 c).arrAt_eq_of_covers 6 _ (by decide +kernel) fun t hf y => ?_
  blk_simp
  rw [after0_6]
  obtain ⟨R, l, rfl⟩ : ∃ (R : Fin 1024) (l : Fin 128), y = ix2 R l := ⟨y 0, y 1, eq_ix2 y⟩
  refine (point6 m c t R l).trans (congrArg _ ?_)
  blk_ext [rowOf, colOf, (index' t).1]

/-- The array of scales along rows. -/
theorem array7 : (dats m 0 c).arrAt 7 cfg0.N = Cert.ReferenceIdeal.Value.G7 (V m c main_arg0) (V m c main_arg1) (V m c main_arg2)
    (V m c main_arg4) (V m c main_arg3) (V m c main_arg5) := by
  refine (dats m 0 c).arrAt_eq_of_covers 7 _ (by decide +kernel) fun t hf y => ?_
  blk_simp
  rw [after0_7]
  have ht := lt_points t
  obtain ⟨z0, z1, z2, R, rfl⟩ : ∃ (z0 z1 z2 : Fin 1) (R : Fin 1024), y = ix4 z0 z1 z2 R := ⟨y 0, y 1, y 2, y 3, eq_ix4 y⟩
  obtain rfl : z0 = 0 := Subsingleton.elim _ _
  obtain rfl : z1 = 0 := Subsingleton.elim _ _
  obtain rfl : z2 = 0 := Subsingleton.elim _ _
  refine (point7 m c t R ⟨t.val / 28 / 2, by omega⟩ ⟨t.val % 28, by omega⟩ ⟨1024 * (t.val / 28 % 2) + R.val, by omega⟩ rfl rfl
    rfl).trans (congrArg _ ?_)
  blk_ext [(index' t).2.1]

/-- The array of codes along columns. -/
theorem array8 : (dats m 0 c).arrAt 8 cfg0.N = Cert.ReferenceIdeal.Value.G8 (V m c main_arg0) (V m c main_arg1) (V m c main_arg2)
    (V m c main_arg4) (V m c main_arg3) (V m c main_arg5) := by
  refine (dats m 0 c).arrAt_eq_of_covers 8 _ (by decide +kernel) fun t hf y => ?_
  blk_simp
  rw [after0_8]
  have ht := lt_points t
  obtain ⟨z0, l, R, rfl⟩ : ∃ (z0 : Fin 1) (l : Fin 128) (R : Fin 1024), y = ix3 z0 l R := ⟨y 0, y 1, y 2, eq_ix3 y⟩
  obtain rfl : z0 = 0 := Subsingleton.elim _ _
  refine (point8 m c t R l ⟨t.val / 28 / 2, by omega⟩ ⟨128 * (t.val % 28) + l.val, by omega⟩
    ⟨1024 * (t.val / 28 % 2) + R.val, by omega⟩ rfl rfl rfl).trans (congrArg _ ?_)
  blk_ext [(index' t).2.2.1]

/-- The array of scales along columns. -/
theorem array9 : (dats m 0 c).arrAt 9 cfg0.N = Cert.ReferenceIdeal.Value.G9 (V m c main_arg0) (V m c main_arg1) (V m c main_arg2)
    (V m c main_arg4) (V m c main_arg3) (V m c main_arg5) := by
  refine (dats m 0 c).arrAt_eq_of_covers 9 _ (by decide +kernel) fun t hf y => ?_
  blk_simp
  rw [after0_9]
  have ht := lt_points t
  obtain ⟨z0, q, l, rfl⟩ : ∃ (z0 : Fin 1) (q : Fin 8) (l : Fin 128), y = ix3 z0 q l := ⟨y 0, y 1, y 2, eq_ix3 y⟩
  obtain rfl : z0 = 0 := Subsingleton.elim _ _
  refine (point9 m c t q l ⟨t.val / 28 / 2, by omega⟩ ⟨8 * (t.val / 28 % 2) + q.val, by omega⟩
    ⟨128 * (t.val % 28) + l.val, by omega⟩ rfl rfl rfl).trans (congrArg _ ?_)
  blk_ext [(index' t).2.2.2]

/-- The kernel's run, with its arrays as the reference's functions of the arguments. -/
theorem run (ρ : Dev nD → PrngReg) : θ_run defs (onTc (τ := τ) (main (F := Ideal))) ⟨m, fun _ => 0, ρ⟩ fun r => ∀ c : Dev nD,
      r.2.mem ((c : Thread nD τ).loc main_v0_0) = Cert.ReferenceIdeal.Value.G6 (m ((c : Thread nD τ).loc main_arg0)) (m ((c : Thread nD τ).loc main_arg1))
          (m ((c : Thread nD τ).loc main_arg2)) (m ((c : Thread nD τ).loc main_arg4)) (m ((c : Thread nD τ).loc main_arg3))
          (m ((c : Thread nD τ).loc main_arg5))
      ∧ r.2.mem ((c : Thread nD τ).loc main_v0_1) = Cert.ReferenceIdeal.Value.G7 (m ((c : Thread nD τ).loc main_arg0)) (m ((c : Thread nD τ).loc main_arg1))
          (m ((c : Thread nD τ).loc main_arg2)) (m ((c : Thread nD τ).loc main_arg4)) (m ((c : Thread nD τ).loc main_arg3))
          (m ((c : Thread nD τ).loc main_arg5))
      ∧ r.2.mem ((c : Thread nD τ).loc main_v0_2) = Cert.ReferenceIdeal.Value.G8 (m ((c : Thread nD τ).loc main_arg0)) (m ((c : Thread nD τ).loc main_arg1))
          (m ((c : Thread nD τ).loc main_arg2)) (m ((c : Thread nD τ).loc main_arg4)) (m ((c : Thread nD τ).loc main_arg3))
          (m ((c : Thread nD τ).loc main_arg5))
      ∧ r.2.mem ((c : Thread nD τ).loc main_v0_3) = Cert.ReferenceIdeal.Value.G9 (m ((c : Thread nD τ).loc main_arg0)) (m ((c : Thread nD τ).loc main_arg1))
          (m ((c : Thread nD τ).loc main_arg2)) (m ((c : Thread nD τ).loc main_arg4)) (m ((c : Thread nD τ).loc main_arg3))
          (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (array6 m c), (h c).2.1.trans (array7 m c), (h c).2.2.1.trans (array8 m c),
    (h c).2.2.2.1.trans (array9 m c), (h c).2.2.2.2⟩) (Cert.KernelIdeal.Value.run_blocks m ρ)

end Cert.KernelIdeal.Hand
-- ==== Proof.DownBody.lean ====
/-
  The down projection's values, written once for all of its row groups and tiles, and read at an index.
-/
module

public import proofs.«01_k».proof.Proof.Body
public import proofs.«01_k».proof.Proof.Gen.DownIdeal.Skeleton
public import Idealize.ShloMosaic.Lib.Pipeline.ValueKit
public import Idealize.ShloMosaic.Lib.Pointwise

@[expose] public section

set_option maxRecDepth 16384

noncomputable section

namespace Cert.DownIdeal.Hand

open Cert.DownIdeal Cert.DownIdeal.Gen Idealize.ShloMosaic Idealize.ShloMosaic.TcCoe Idealize.SL.Sem

/-! ## The product -/

/-- One widened tile of the weight. -/
def wTile (w : Vec Ideal S128x128 .fp8e4m3) (s : Elt Ideal .f32) : FVec Ideal S128x128 .bf16 :=
  have v : Ideal .bf16 := Scalar.truncf (F := Ideal) .bf16 bitsLt_bf16_f32 s
  mulf (extf (F := Ideal) .bf16 w bitsLt_fp8e4m3_bf16) (broadcast S128x128 v)

/-- Two tiles side by side. -/
def pair (t : Fin 2 → FVec Ideal S128x128 .bf16) : FVec Ideal S128x256 .bf16 :=
  concatenate S128x256 1 [⟨S128x128, t 0⟩, ⟨S128x128, t 1⟩] concatenates_S128x128_S128x128_S128x256_d1

/-- The rows of tiles of the weight, one under the other. -/
def stack (t : Fin 28 → FVec Ideal S128x256 .bf16) : FVec Ideal S3584x256 .bf16 :=
  concatenate S3584x256 0 [⟨S128x256, t 0⟩, ⟨S128x256, t 1⟩, ⟨S128x256, t 2⟩, ⟨S128x256, t 3⟩, ⟨S128x256, t 4⟩, ⟨S128x256, t 5⟩, ⟨S128x256, t 6⟩,
    ⟨S128x256, t 7⟩, ⟨S128x256, t 8⟩, ⟨S128x256, t 9⟩, ⟨S128x256, t 10⟩, ⟨S128x256, t 11⟩, ⟨S128x256, t 12⟩,
    ⟨S128x256, t 13⟩, ⟨S128x256, t 14⟩, ⟨S128x256, t 15⟩, ⟨S128x256, t 16⟩, ⟨S128x256, t 17⟩, ⟨S128x256, t 18⟩,
    ⟨S128x256, t 19⟩, ⟨S128x256, t 20⟩, ⟨S128x256, t 21⟩, ⟨S128x256, t 22⟩, ⟨S128x256, t 23⟩, ⟨S128x256, t 24⟩,
    ⟨S128x256, t 25⟩, ⟨S128x256, t 26⟩, ⟨S128x256, t 27⟩]
    concatenates_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S3584x256_d0

/-- The product. -/
def product (t : Fin 28 → FVec Ideal S128x256 .bf16) (aw : Vec Ideal S1024x3584 .bf16) : FVec Ideal S1024x256 .f32 :=
  matmul (F := Ideal) (φ₁ := .bf16) dot_S1024x3584_S3584x256_S1024x256_1_0_0_1_n_n none aw (stack t)
    (constant S1024x256 .f32 0x00000000#32)

/-- The product, rounded to the output's format. -/
def rounded (y : FVec Ideal S1024x256 .f32) : FVec Ideal S1024x256 .bf16 := truncf .bf16 y bitsLt_bf16_f32

/-! ## The widened codes -/

theorem slices_scale : ∀ k : Fin 28, S128x128.Slices ![0, k.val] S128x1 := by decide

/-- The transposed scales of a group of rows, widened to 128 columns. -/
def aScales (st : Vec Ideal S1x28x128 .f32) : FVec Ideal S128x128 .bf16 :=
  have z : FVec Ideal S100x128 .f32 := broadcast S100x128 (Scalar.ofBits .f32 0x00000000#32)
  have v : FVec Ideal S28x128 .f32 := shapeCast S28x128 st shapeCasts_S1x28x128_S28x128
  have w : FVec Ideal S128x128 .f32 := concatenate S128x128 0 [⟨S28x128, v⟩, ⟨S100x128, z⟩] concatenates_S28x128_S100x128_S128x128_d0
  have t : FVec Ideal S128x128 .f32 := transpose S128x128 [1, 0] w transposes_S128x128_p1_0_S128x128
  truncf .bf16 t bitsLt_bf16_f32

/-- One widened tile of the codes: the tile times column `k` of its rows' transposed scales. -/
def aTile (st : Vec Ideal S1x28x128 .f32) (a : Vec Ideal S128x128 .fp8e4m3) (k : Fin 28) : Vec Ideal S128x128 .bf16 :=
  have x : FVec Ideal S128x128 .bf16 := extf (F := Ideal) .bf16 a bitsLt_fp8e4m3_bf16
  have c : FVec Ideal S128x1 .bf16 := extractStridedSlice S128x1 ![0, k.val] (aScales st) (slices_scale k)
  have y : FVec Ideal S128x128 .bf16 := broadcastTo S128x128 c broadcasts_S128x1_S128x128
  have z : FVec Ideal S128x128 .bf16 := mulf x y
  shapeCast S128x128 z shapeCasts_S128x128_S128x128

/-! ## The coefficients and the mixed streams -/

theorem slices_coef : ∀ n : Fin 20, S128x24.Slices ![0, n.val] S128x1 := by decide

theorem slices_stream : ∀ g : Fin 8, S8x8x128.Slices ![0, g.val, 0] S8x1x128 := by decide

theorem slices_part : ∀ (q : Fin 128) (k : Fin 2), S1024x256.Slices ![8 * q.val, 128 * k.val] S8x128 := by decide +kernel

/-- One coefficient of a group of rows, copied to all lanes: the 16 of the mixing map come first, the 4 of the output map next. -/
def cTile (a : Vec Ideal S1x16x128 .f32) (b : Vec Ideal S1x4x128 .f32) (n : Fin 20) : Vec Ideal S1x128x128 .f32 :=
  have a' : FVec Ideal S16x128 .f32 := shapeCast S16x128 a shapeCasts_S1x16x128_S16x128
  have b' : FVec Ideal S4x128 .f32 := shapeCast S4x128 b shapeCasts_S1x4x128_S4x128
  have z : FVec Ideal S4x128 .f32 := broadcast S4x128 (Scalar.ofBits .f32 0x00000000#32)
  have w : FVec Ideal S24x128 .f32 := concatenate S24x128 0 [⟨S16x128, a'⟩, ⟨S4x128, b'⟩, ⟨S4x128, z⟩]
    concatenates_S16x128_S4x128_S4x128_S24x128_d0
  have t : FVec Ideal S128x24 .f32 := transpose S128x24 [1, 0] w transposes_S24x128_p1_0_S128x24
  have c : FVec Ideal S128x1 .f32 := extractStridedSlice S128x1 ![0, n.val] t (slices_coef n)
  have c' : FVec Ideal S128x1 .f32 := shapeCast S128x1 c shapeCasts_S128x1_S128x1
  have y : FVec Ideal S128x128 .f32 := broadcastTo S128x128 c' broadcasts_S128x1_S128x128
  shapeCast S1x128x128 y shapeCasts_S128x128_S1x128x128

/-- A coefficient times one stream of the residual. -/
def term (cf : Vec Ideal S1x8x128 .f32) (x : Vec Ideal S8x8x128 .bf16) (g : Fin 8) : FVec Ideal S8x128 .f32 :=
  have c : FVec Ideal S8x128 .f32 := shapeCast S8x128 cf shapeCasts_S1x8x128_S8x128
  have v : FVec Ideal S8x1x128 .bf16 := extractStridedSlice S8x1x128 ![0, g.val, 0] x (slices_stream g)
  have w : FVec Ideal S8x128 .bf16 := shapeCast S8x128 v shapeCasts_S8x1x128_S8x128
  mulf c (extf (F := Ideal) .f32 w bitsLt_bf16_f32)

/-- A coefficient times a part of the product. -/
def partTerm (cf : Vec Ideal S1x8x128 .f32) (y : FVec Ideal S1024x256 .f32) (q : Fin 128) (k : Fin 2) : FVec Ideal S8x128 .f32 :=
  have c : FVec Ideal S8x128 .f32 := shapeCast S8x128 cf shapeCasts_S1x8x128_S8x128
  have v : FVec Ideal S8x128 .f32 := extractStridedSlice S8x128 ![8 * q.val, 128 * k.val] y (slices_part q k)
  mulf c v

/-- One new stream of a strip of rows. -/
def mix (cf : Fin 20 → Vec Ideal S1x8x128 .f32) (x : Vec Ideal S8x8x128 .bf16) (y : FVec Ideal S1024x256 .f32) (q : Fin 128)
    (k : Fin 2) (a : Fin 4) : FVec Ideal S8x1x128 .bf16 :=
  have s0 : FVec Ideal S8x128 .f32 := term (cf ⟨4 * a.val, by omega⟩) x ⟨4 * k.val, by omega⟩
  have s1 : FVec Ideal S8x128 .f32 := addf s0 (term (cf ⟨4 * a.val + 1, by omega⟩) x ⟨4 * k.val + 1, by omega⟩)
  have s2 : FVec Ideal S8x128 .f32 := addf s1 (term (cf ⟨4 * a.val + 2, by omega⟩) x ⟨4 * k.val + 2, by omega⟩)
  have s3 : FVec Ideal S8x128 .f32 := addf s2 (term (cf ⟨4 * a.val + 3, by omega⟩) x ⟨4 * k.val + 3, by omega⟩)
  have s4 : FVec Ideal S8x128 .f32 := addf s3 (partTerm (cf ⟨16 + a.val, by omega⟩) y q k)
  have v : FVec Ideal S8x128 .bf16 := truncf .bf16 s4 bitsLt_bf16_f32
  shapeCast S8x1x128 v shapeCasts_S8x128_S8x1x128

/-- The eight new streams of a strip of rows, side by side. -/
def streams (t : Fin 2 → Fin 4 → FVec Ideal S8x1x128 .bf16) : FVec Ideal S8x8x128 .bf16 :=
  concatenate S8x8x128 1 [⟨S8x1x128, t 0 0⟩, ⟨S8x1x128, t 0 1⟩, ⟨S8x1x128, t 0 2⟩, ⟨S8x1x128, t 0 3⟩, ⟨S8x1x128, t 1 0⟩,
    ⟨S8x1x128, t 1 1⟩, ⟨S8x1x128, t 1 2⟩, ⟨S8x1x128, t 1 3⟩]
    concatenates_S8x1x128_S8x1x128_S8x1x128_S8x1x128_S8x1x128_S8x1x128_S8x1x128_S8x1x128_S8x8x128_d1

/-! ## The places of the loads and stores -/

theorem inb_maps16 : ∀ q : Fin 8, ∀ a, (![0, 0, 128 * q.val] : Fin 3 → ℕ) a + S1x16x128.size a ≤ S1x16x1024.size a := by decide

theorem inb_maps4 : ∀ q : Fin 8, ∀ a, (![0, 0, 128 * q.val] : Fin 3 → ℕ) a + S1x4x128.size a ≤ S1x4x1024.size a := by decide

theorem inb_coef : ∀ (n : Fin 20) (q : Fin 8), ∀ a,
    (![n.val, 128 * q.val, 0] : Fin 3 → ℕ) a + S1x128x128.size a ≤ S20x1024x128.size a := by decide

theorem inb_streams : ∀ q : Fin 128, ∀ a, (![8 * q.val, 0, 0] : Fin 3 → ℕ) a + S8x8x128.size a ≤ S1024x8x128.size a := by
  decide +kernel

theorem inb_row : ∀ (n : Fin 20) (q : Fin 128), ∀ a,
    (![n.val, 8 * q.val, 0] : Fin 3 → ℕ) a + S1x8x128.size a ≤ S20x1024x128.size a := by decide +kernel

theorem inb_tile : ∀ (k : Fin 28) (c : Fin 2), ∀ a, (![128 * k.val, 128 * c.val] : Fin 2 → ℕ) a + S128x128.size a ≤ S3584x256.size a := by
  decide

theorem inb_scales : ∀ q : Fin 8, ∀ a, (![0, 0, 128 * q.val] : Fin 3 → ℕ) a + S1x28x128.size a ≤ S1x28x1024.size a := by decide

theorem inb_strip : ∀ q : Fin 8, ∀ a, (![128 * q.val, 0] : Fin 2 → ℕ) a + S128x3584.size a ≤ S1024x3584.size a := by decide

theorem inb_cols : ∀ k : Fin 28, ∀ a, (![0, 128 * k.val] : Fin 2 → ℕ) a + S128x128.size a ≤ S128x3584.size a := by decide

theorem inb_wide : ∀ q : Fin 8, ∀ k : Fin 28, ∀ a,
    (![128 * q.val, 128 * k.val] : Fin 2 → ℕ) a + S128x128.size a ≤ S1024x3584.size a := by decide

/-- The place of a weight tile's scale: row `k`, column `2 j + c` for the grid point's `j`. -/
def soff (k : Fin 28) (c : Fin 2) (i : grid0.Coords) : Fin 2 → ℕ :=
  ![k.val, (Scalar.indexCast (Scalar.addi (Scalar.muli (BitVec.ofNat 32 (i 1).val) 2#32) (BitVec.ofNat 32 c.val))).toNat]

theorem soff_inb (k : Fin 28) (c : Fin 2) (i : grid0.Coords) : ∀ a, soff k c i a + S1x1.size a ≤ S28x32.size a := by
  have h := k0_off2_inb i c 1
  intro a
  match a with
  | 0 => exact Nat.succ_le_of_lt k.isLt
  | 1 => exact h

/-- The group of the `n`-th tile. -/
def tileRow (n : ℕ) : Fin 8 := ⟨n / 28 % 8, Nat.mod_lt _ (by decide)⟩

/-- The column of the `n`-th tile. -/
def tileCol (n : ℕ) : Fin 28 := ⟨n % 28, Nat.mod_lt _ (by decide)⟩

/-- The `n`-th widened tile of the codes. -/
def pieceA (st : Fin 8 → Vec Ideal S1x28x128 .f32) (a : Fin 8 → Fin 28 → Vec Ideal S128x128 .fp8e4m3) (n : ℕ) :
    View.Piece (Elt Ideal) S1024x3584 .bf16 :=
  ⟨Rect.unit (s := S1024x3584) ![128 * (tileRow n).val, 128 * (tileCol n).val] S128x128.size (inb_wide (tileRow n) (tileCol n)),
    aTile (st (tileRow n)) (a (tileRow n) (tileCol n)) (tileCol n)⟩

/-- The group of the `n`-th coefficient. -/
def coefRow (n : ℕ) : Fin 8 := ⟨n / 20 % 8, Nat.mod_lt _ (by decide)⟩

/-- The number of the `n`-th coefficient in its group. -/
def coefCol (n : ℕ) : Fin 20 := ⟨n % 20, Nat.mod_lt _ (by decide)⟩

/-- The `n`-th coefficient. -/
def pieceC (a : Fin 8 → Vec Ideal S1x16x128 .f32) (b : Fin 8 → Vec Ideal S1x4x128 .f32) (n : ℕ) :
    View.Piece (Elt Ideal) S20x1024x128 .f32 :=
  ⟨Rect.unit (s := S20x1024x128) ![(coefCol n).val, 128 * (coefRow n).val, 0] S1x128x128.size (inb_coef (coefCol n) (coefRow n)),
    cTile (a (coefRow n)) (b (coefRow n)) (coefCol n)⟩

/-- The `n`-th strip of the new streams. -/
def pieceX (v : Fin 128 → FVec Ideal S8x8x128 .bf16) (n : ℕ) : View.Piece (Elt Ideal) S1024x8x128 .bf16 :=
  have q : Fin 128 := ⟨n % 128, Nat.mod_lt _ (by decide)⟩
  ⟨Rect.unit (s := S1024x8x128) ![8 * q.val, 0, 0] S8x8x128.size (inb_streams q), v q⟩

/-! ## Reading at an index -/

/-- A stack of tiles read at a row: the row lies in the tile that its quotient names. -/
theorem stackAt (k : Fin 3584) (l : Fin 256) : ∀ (xs : List (FVec Ideal S128x256 .bf16))
    (hs : ∀ s ∈ (xs.map fun x => (⟨S128x256, x⟩ : (s : Shape) × (s.Idx → Ideal .bf16))).map (·.1), s.FitsOff S3584x256 0) (c : ℕ)
    (hc : c < (axisSizes S3584x256 0 (xs.map fun x => (⟨S128x256, x⟩ : (s : Shape) × (s.Idx → Ideal .bf16)))).sum)
    (q : ℕ) (r : Fin 128) (hq : q < xs.length), c = 128 * q + r.val →
    concatenateAt S3584x256 0 (ix2 k l) (xs.map fun x => ⟨S128x256, x⟩) hs c hc = xs[q] (ix2 r l)
  | [], _, _, _, _, _, hq, _ => absurd hq (Nat.not_lt_zero _)
  | [x], hs, c, hc, 0, r, _, e => by
    have e' : c = r.val := by omega
    subst e'
    simp only [List.map_cons, List.map_nil]
    rw [concatenateAt]
    refine congrArg x (funext fun b => ?_)
    fin_cases b <;> rfl
  | [x], _, _, _, q + 1, _, hq, _ => by simp at hq
  | x :: y :: xs, hs, c, hc, 0, r, hq, e => by
    have e' : c = r.val := by omega
    subst e'
    simp only [List.map_cons]
    rw [concatenateAt]
    refine (dif_pos (show r.val < 128 from r.isLt)).trans ?_
    refine congrArg x (funext fun b => ?_)
    fin_cases b <;> rfl
  | x :: y :: xs, hs, c, hc, q + 1, r, hq, e => by
    simp only [List.map_cons]
    rw [concatenateAt]
    refine (dif_neg (show ¬ c < 128 by omega)).trans ?_
    exact stackAt k l (y :: xs) _ (c - 128) _ q r (by simpa using hq) (by omega)

/-- Row `128 q + r` of the stack is row `r` of tile `q`. -/
theorem stack_apply (t : Fin 28 → FVec Ideal S128x256 .bf16) (q : Fin 28) (r : Fin 128) (c : Fin 256) (k : Fin 3584)
    (h : k.val = 128 * q.val + r.val) :
    stack t (ix2 k c) = t q (ix2 r c) := by
  rw [stack, concatenate_apply]
  refine (stackAt k c [t 0, t 1, t 2, t 3, t 4, t 5, t 6, t 7, t 8, t 9, t 10, t 11, t 12, t 13, t 14, t 15, t 16, t 17,
    t 18, t 19, t 20, t 21, t 22, t 23, t 24, t 25, t 26, t 27] _ k.val _ q.val r (by simpa using q.isLt) h).trans ?_
  refine congrFun ?_ (ix2 r c)
  fin_cases q <;> rfl

/-- Column `128 h + l` of two tiles side by side is column `l` of tile `h`. -/
theorem pair_apply (t : Fin 2 → FVec Ideal S128x128 .bf16) (h : Fin 2) (r l : Fin 128) (c : Fin 256) (hc : c.val = 128 * h.val + l.val) :
    pair t (ix2 r c) = t h (ix2 r l) := by
  match h, hc with
  | 0, hc =>
    have e : c = ⟨l.val, Nat.lt_of_lt_of_le l.isLt (by decide)⟩ := Fin.ext (by simpa using hc)
    rw [e]
    pointwise [pair]
  | 1, hc =>
    have e : c = ⟨128 + l.val, Nat.add_lt_add_left l.isLt 128⟩ := Fin.ext (by simpa using hc)
    rw [e]
    pointwise [pair]

/-- A tile of codes times its row scales. -/
theorem aTile_apply (st : Vec Ideal S1x28x128 .f32) (a : Vec Ideal S128x128 .fp8e4m3) (k : Fin 28) (r c : Fin 128) :
    aTile st a k (ix2 r c) = a (ix2 r c) * st (ix3 0 k r) := by
  pointwise [aTile, aScales]

/-- A tile of the weight times its scale. -/
theorem wTile_apply (w : Vec Ideal S128x128 .fp8e4m3) (s : Elt Ideal .f32) (r c : Fin 128) :
    wTile w s (ix2 r c) = w (ix2 r c) * s := by
  pointwise [wTile]

/-- The product is a sum over the columns of the codes. -/
theorem product_apply (t : Fin 28 → FVec Ideal S128x256 .bf16) (aw : Vec Ideal S1024x3584 .bf16) (r : Fin 1024) (c : Fin 256) :
    product t aw (ix2 r c) = ∑ k : Fin 3584, aw (ix2 r k) * stack t (ix2 k c) := by
  pointwise [product]

/-- One of the 16 coefficients of the mixing map. -/
theorem cTile_left (a : Vec Ideal S1x16x128 .f32) (b : Vec Ideal S1x4x128 .f32) (n : Fin 16) (N : Fin 20) (h : N.val = n.val)
    (r l : Fin 128) : cTile a b N (ix3 0 r l) = a (ix3 0 n r) := by
  have e : N = ⟨n.val, by omega⟩ := Fin.ext h
  rw [e]
  pointwise [cTile]

/-- One of the 4 coefficients of the output map. -/
theorem cTile_right (a : Vec Ideal S1x16x128 .f32) (b : Vec Ideal S1x4x128 .f32) (n : Fin 4) (N : Fin 20) (h : N.val = 16 + n.val)
    (r l : Fin 128) : cTile a b N (ix3 0 r l) = b (ix3 0 n r) := by
  have e : N = ⟨16 + n.val, by omega⟩ := Fin.ext h
  rw [e]
  pointwise [cTile]

/-- A coefficient times one stream, at an index. -/
theorem term_apply (cf : Vec Ideal S1x8x128 .f32) (x : Vec Ideal S8x8x128 .bf16) (g : Fin 8) (r : Fin 8) (l : Fin 128) :
    term cf x g (ix2 r l) = cf (ix3 0 r l) * x (ix3 r g l) := by
  pointwise [term]

/-- A coefficient times a part of the product, at an index. -/
theorem partTerm_apply (cf : Vec Ideal S1x8x128 .f32) (y : FVec Ideal S1024x256 .f32) (q : Fin 128) (k : Fin 2) (r : Fin 8) (l : Fin 128)
    (R : Fin 1024) (c : Fin 256) (hR : R.val = 8 * q.val + r.val) (hc : c.val = 128 * k.val + l.val) :
    partTerm cf y q k (ix2 r l) = cf (ix3 0 r l) * y (ix2 R c) := by
  have e : R = ⟨8 * q.val + r.val, by omega⟩ := Fin.ext hR
  have e' : c = ⟨128 * k.val + l.val, by omega⟩ := Fin.ext hc
  rw [e, e']
  pointwise [partTerm]

/-- A new stream at an index. -/
theorem mix_apply (cf : Fin 20 → Vec Ideal S1x8x128 .f32) (x : Vec Ideal S8x8x128 .bf16) (y : FVec Ideal S1024x256 .f32)
    (q : Fin 128) (k : Fin 2) (a : Fin 4) (r : Fin 8) (l : Fin 128) :
    mix cf x y q k a (ix3 r 0 l) =
      term (cf ⟨4 * a.val, by omega⟩) x ⟨4 * k.val, by omega⟩ (ix2 r l) +
      term (cf ⟨4 * a.val + 1, by omega⟩) x ⟨4 * k.val + 1, by omega⟩ (ix2 r l) +
      term (cf ⟨4 * a.val + 2, by omega⟩) x ⟨4 * k.val + 2, by omega⟩ (ix2 r l) +
      term (cf ⟨4 * a.val + 3, by omega⟩) x ⟨4 * k.val + 3, by omega⟩ (ix2 r l) +
      partTerm (cf ⟨16 + a.val, by omega⟩) y q k (ix2 r l) := by
  pointwise [mix]

/-- Streams side by side read at one of them. -/
theorem streamsAt (r : Fin 8) (g : Fin 8) (l : Fin 128) : ∀ (xs : List (FVec Ideal S8x1x128 .bf16))
    (hs : ∀ s ∈ (xs.map fun x => (⟨S8x1x128, x⟩ : (s : Shape) × (s.Idx → Ideal .bf16))).map (·.1), s.FitsOff S8x8x128 1) (c : ℕ)
    (hc : c < (axisSizes S8x8x128 1 (xs.map fun x => (⟨S8x1x128, x⟩ : (s : Shape) × (s.Idx → Ideal .bf16)))).sum)
    (q : ℕ) (hq : q < xs.length), c = q →
    concatenateAt S8x8x128 1 (ix3 r g l) (xs.map fun x => ⟨S8x1x128, x⟩) hs c hc = xs[q] (ix3 r 0 l)
  | [], _, _, _, _, hq, _ => absurd hq (Nat.not_lt_zero _)
  | [x], hs, c, hc, 0, _, e => by
    subst e
    simp only [List.map_cons, List.map_nil]
    rw [concatenateAt]
    refine congrArg x (funext fun b => ?_)
    fin_cases b <;> rfl
  | [x], _, _, _, q + 1, hq, _ => by simp at hq
  | x :: y :: xs, hs, c, hc, 0, hq, e => by
    subst e
    simp only [List.map_cons]
    rw [concatenateAt]
    refine (dif_pos (show 0 < 1 from Nat.one_pos)).trans ?_
    refine congrArg x (funext fun b => ?_)
    fin_cases b <;> rfl
  | x :: y :: xs, hs, c, hc, q + 1, hq, e => by
    simp only [List.map_cons]
    rw [concatenateAt]
    refine (dif_neg (show ¬ c < 1 by omega)).trans ?_
    exact streamsAt r g l (y :: xs) _ (c - 1) _ q (by simpa using hq) (by omega)

/-- Place `4 k + a` holds new stream `a` of part `k`. -/
theorem streams_apply (t : Fin 2 → Fin 4 → FVec Ideal S8x1x128 .bf16) (k : Fin 2) (a : Fin 4) (r : Fin 8) (l : Fin 128) (g : Fin 8)
    (h : g.val = 4 * k.val + a.val) : streams t (ix3 r g l) = t k a (ix3 r 0 l) := by
  rw [streams, concatenate_apply]
  refine (streamsAt r g l [t 0 0, t 0 1, t 0 2, t 0 3, t 1 0, t 1 1, t 1 2, t 1 3] _ g.val _ (4 * k.val + a.val)
    (by simp only [List.length_cons, List.length_nil]; omega) h).trans ?_
  refine congrFun ?_ (ix3 r 0 l)
  fin_cases k <;> fin_cases a <;> rfl

end Cert.DownIdeal.Hand
-- ==== Proof.DownRuns.lean ====
/-
  What the two cases of the down projection's body store, as the lists of pieces of `DownBody.lean`, and what they leave in the
  buffers.
-/
module

public import proofs.«01_k».proof.Proof.DownBody
public import proofs.«01_k».proof.Proof.Gen.DownIdeal.Frame

@[expose] public section

set_option maxRecDepth 65536

noncomputable section

namespace Cert.DownIdeal.Hand

open Cert.DownIdeal Cert.DownIdeal.Gen Idealize.ShloMosaic Idealize.ShloMosaic.TcCoe Idealize.SL.Sem
open Cert.KernelIdeal.Hand (down mem_down)

/-! ## The loads, as functions of the tile -/

/-- A widened weight tile from the body's loads of the weight and its scales. -/
def loadW (i : grid0.Coords) (w : Memref sig .tc .vmem S3584x256 .fp8e4m3) (hw : w.IsWhole)
    (s : Memref sig .tc .smem S28x32 .f32) (hs : s.IsWhole) (x : Vec Ideal S3584x256 .fp8e4m3) (y : Vec Ideal S28x32 .f32)
    (k : Fin 28) (c : Fin 2) : FVec Ideal S128x128 .bf16 :=
  wTile (View.readAt (Elt Ideal) w.view (Rect.unit (s := S3584x256) ![128 * k.val, 128 * c.val] S128x128.size (inb_tile k c)).toLoadRect
      (hw.unread x))
    (View.readAt (Elt Ideal) s.view (Rect.unit (s := S28x32) (soff k c i) S1x1.size (soff_inb k c i)).toLoadRect
      (hs.unread y) (Shape.Idx.first (show 0 < S1x1.numel by decide)))

/-- A row of widened weight tiles. -/
def loadRow (i : grid0.Coords) (w : Memref sig .tc .vmem S3584x256 .fp8e4m3) (hw : w.IsWhole)
    (s : Memref sig .tc .smem S28x32 .f32) (hs : s.IsWhole) (x : Vec Ideal S3584x256 .fp8e4m3) (y : Vec Ideal S28x32 .f32)
    (k : Fin 28) : FVec Ideal S128x256 .bf16 :=
  pair (loadW i w hw s hs x y k)

/-- A group's scales of the codes. -/
def loadS (arg3 : Memref sig .tc .vmem S1x28x1024 .f32) (harg3 : arg3.IsWhole) (x1 : Vec Ideal S1x28x1024 .f32) (q : Fin 8) :
    Vec Ideal S1x28x128 .f32 :=
  View.readAt (Elt Ideal) arg3.view (Rect.unit (s := S1x28x1024) ![0, 0, 128 * q.val] S1x28x128.size (inb_scales q)).toLoadRect
    (harg3.unread x1)

/-- A tile of the codes. -/
def loadA (arg2 : Memref sig .tc .vmem S1024x3584 .fp8e4m3) (harg2 : arg2.IsWhole) (x0 : Vec Ideal S1024x3584 .fp8e4m3)
    (q : Fin 8) (k : Fin 28) : Vec Ideal S128x128 .fp8e4m3 :=
  View.readAt (Elt Ideal) arg2.view
    ((Rect.unit (s := S1024x3584) ![128 * q.val, 0] S128x3584.size (inb_strip q)).withinL
      (Rect.unit (s := S128x3584) ![0, 128 * k.val] S128x128.size (inb_cols k)).toLoadRect (by intro a; rfl))
    (harg2.unread x0)

/-- A group's coefficients of the mixing map. -/
def loadP (arg4 : Memref sig .tc .vmem S1x16x1024 .f32) (harg4 : arg4.IsWhole) (x2 : Vec Ideal S1x16x1024 .f32) (q : Fin 8) :
    Vec Ideal S1x16x128 .f32 :=
  View.readAt (Elt Ideal) arg4.view (Rect.unit (s := S1x16x1024) ![0, 0, 128 * q.val] S1x16x128.size (inb_maps16 q)).toLoadRect
    (harg4.unread x2)

/-- A group's coefficients of the output map. -/
def loadO (arg5 : Memref sig .tc .vmem S1x4x1024 .f32) (harg5 : arg5.IsWhole) (x3 : Vec Ideal S1x4x1024 .f32) (q : Fin 8) :
    Vec Ideal S1x4x128 .f32 :=
  View.readAt (Elt Ideal) arg5.view (Rect.unit (s := S1x4x1024) ![0, 0, 128 * q.val] S1x4x128.size (inb_maps4 q)).toLoadRect
    (harg5.unread x3)

/-- A strip's old streams. -/
def loadX (arg8 : Memref sig .tc .vmem S1024x8x128 .bf16) (harg8 : arg8.IsWhole) (x6 : Vec Ideal S1024x8x128 .bf16) (q : Fin 128) :
    Vec Ideal S8x8x128 .bf16 :=
  View.readAt (Elt Ideal) arg8.view (Rect.unit (s := S1024x8x128) ![8 * q.val, 0, 0] S8x8x128.size (inb_streams q)).toLoadRect
    (harg8.unread x6)

/-- The place of a strip's coefficient. -/
def coefAt (q : Fin 128) (n : Fin 20) : LoadRect S20x1024x128 :=
  (Rect.unit (s := S20x1024x128) ![n.val, 8 * q.val, 0] S1x8x128.size (inb_row n q)).toLoadRect

/-- A strip's coefficient out of all the coefficients. -/
def coefOf (v : Vec Ideal S20x1024x128 .f32) (q : Fin 128) (n : Fin 20) : Vec Ideal S1x8x128 .f32 := fun j => v ((coefAt q n).idx j)

/-- The new streams of a strip of rows. -/
def strip (cf : Fin 128 → Fin 20 → Vec Ideal S1x8x128 .f32) (x : Fin 128 → Vec Ideal S8x8x128 .bf16) (y : FVec Ideal S1024x256 .f32)
    (q : Fin 128) : FVec Ideal S8x8x128 .bf16 :=
  streams (mix (cf q) (x q) y q)

/-- The piece of the whole output. -/
def pieceO (v : FVec Ideal S1024x256 .bf16) : View.Piece (Elt Ideal) S1024x256 .bf16 :=
  ⟨Rect.unit (s := S1024x256) ![0, 0] S1024x256.size inb_S1024x256_S1024x256_0_0, v⟩

/-- The widened codes a point that makes them leaves in the scratch. -/
def wide (arg2 : Memref sig .tc .vmem S1024x3584 .fp8e4m3) (harg2 : arg2.IsWhole) (arg3 : Memref sig .tc .vmem S1x28x1024 .f32)
    (harg3 : arg3.IsWhole) (x0 : Vec Ideal S1024x3584 .fp8e4m3) (x1 : Vec Ideal S1x28x1024 .f32) : Vec Ideal S1024x3584 .bf16 :=
  View.canon (down (pieceA (loadS arg3 harg3 x1) (loadA arg2 harg2 x0)) 224)

/-- The coefficients a point that makes them leaves in the scratch. -/
def coefs (arg4 : Memref sig .tc .vmem S1x16x1024 .f32) (harg4 : arg4.IsWhole) (arg5 : Memref sig .tc .vmem S1x4x1024 .f32)
    (harg5 : arg5.IsWhole) (x2 : Vec Ideal S1x16x1024 .f32) (x3 : Vec Ideal S1x4x1024 .f32) : Vec Ideal S20x1024x128 .f32 :=
  View.canon (down (pieceC (loadP arg4 harg4 x2) (loadO arg5 harg5 x3)) 160)

variable
  (c : Dev nD) (i : grid0.Coords) (arg2 : Memref sig .tc .vmem S1024x3584 .fp8e4m3) (harg2 : arg2.IsWhole)
  (arg3 : Memref sig .tc .vmem S1x28x1024 .f32) (harg3 : arg3.IsWhole)
  (arg4 : Memref sig .tc .vmem S1x16x1024 .f32) (harg4 : arg4.IsWhole)
  (arg5 : Memref sig .tc .vmem S1x4x1024 .f32) (harg5 : arg5.IsWhole)
  (arg6 : Memref sig .tc .vmem S3584x256 .fp8e4m3) (harg6 : arg6.IsWhole)
  (arg7 : Memref sig .tc .smem S28x32 .f32) (harg7 : arg7.IsWhole)
  (arg8 : Memref sig .tc .vmem S1024x8x128 .bf16) (harg8 : arg8.IsWhole)
  (arg9 : Memref sig .tc .vmem S1024x8x128 .bf16) (harg9 : arg9.IsWhole)
  (arg10 : Memref sig .tc .vmem S1024x256 .bf16) (harg10 : arg10.IsWhole)
  (arg11 : Memref sig .tc .vmem S1024x3584 .bf16) (harg11 : arg11.IsWhole)
  (arg12 : Memref sig .tc .vmem S20x1024x128 .f32) (harg12 : arg12.IsWhole)
  (x0 : Vec Ideal S1024x3584 .fp8e4m3) (x1 : Vec Ideal S1x28x1024 .f32) (x2 : Vec Ideal S1x16x1024 .f32)
  (x3 : Vec Ideal S1x4x1024 .f32) (x4 : Vec Ideal S3584x256 .fp8e4m3) (x5 : Vec Ideal S28x32 .f32)
  (x6 : Vec Ideal S1024x8x128 .bf16) (xs0 : Vec Ideal S1024x3584 .bf16) (xs1 : Vec Ideal S20x1024x128 .f32)

/-- What the scratch holds of the widened codes. -/
theorem piecesA (hc0 : cond0_0 i) :
    (kernelRun0_A c i arg2 harg2 arg3 harg3 arg4 harg4 arg5 harg5 arg6 harg6 arg7 harg7 arg8 harg8 arg9 harg9 arg10 harg10 arg11 harg11 arg12 harg12
        hc0 x0 x1 x2 x3 x4 x5 x6).2.2.1 =
      down (pieceA (loadS arg3 harg3 x1) (loadA arg2 harg2 x0)) 224 := by
  sl_kernel_rfl

/-- What the scratch holds of the coefficients. -/
theorem piecesC (hc0 : cond0_0 i) :
    (kernelRun0_A c i arg2 harg2 arg3 harg3 arg4 harg4 arg5 harg5 arg6 harg6 arg7 harg7 arg8 harg8 arg9 harg9 arg10 harg10 arg11 harg11 arg12 harg12
        hc0 x0 x1 x2 x3 x4 x5 x6).2.2.2.1 =
      down (pieceC (loadP arg4 harg4 x2) (loadO arg5 harg5 x3)) 160 := by
  sl_kernel_rfl

/-- The product of a point that widens the codes, from what it has stored. -/
def productA (hc0 : cond0_0 i) : FVec Ideal S1024x256 .f32 :=
  product (loadRow i arg6 harg6 arg7 harg7 x4 x5) (View.readCov (Val := Elt Ideal) arg11.view
    (kernelRun0_A c i arg2 harg2 arg3 harg3 arg4 harg4 arg5 harg5 arg6 harg6 arg7 harg7 arg8 harg8 arg9 harg9 arg10 harg10 arg11 harg11 arg12 harg12
      hc0 x0 x1 x2 x3 x4 x5 x6).2.2.1
    (Rect.unit (s := S1024x3584) ![0, 0] S1024x3584.size inb_S1024x3584_S1024x3584_0_0).toLoadRect)

/-- The product of a point that keeps the widened codes. -/
def productB : FVec Ideal S1024x256 .f32 :=
  product (loadRow i arg6 harg6 arg7 harg7 x4 x5) (View.readAt (Elt Ideal) arg11.view
    (Rect.unit (s := S1024x3584) ![0, 0] S1024x3584.size inb_S1024x3584_S1024x3584_0_0).toLoadRect (harg11.unread xs0))

/-- What a point that widens the codes stores to the first output. -/
theorem piecesA_7 (hc0 : cond0_0 i) :
    (kernelRun0_A c i arg2 harg2 arg3 harg3 arg4 harg4 arg5 harg5 arg6 harg6 arg7 harg7 arg8 harg8 arg9 harg9 arg10 harg10 arg11 harg11 arg12 harg12
        hc0 x0 x1 x2 x3 x4 x5 x6).1 =
      down (pieceX (strip (fun q n => View.readCov (Val := Elt Ideal) arg12.view
        (kernelRun0_A c i arg2 harg2 arg3 harg3 arg4 harg4 arg5 harg5 arg6 harg6 arg7 harg7 arg8 harg8 arg9 harg9 arg10 harg10 arg11 harg11 arg12 harg12
          hc0 x0 x1 x2 x3 x4 x5 x6).2.2.2.1 (coefAt q n)) (loadX arg8 harg8 x6)
        (productA c i arg2 harg2 arg3 harg3 arg4 harg4 arg5 harg5 arg6 harg6 arg7 harg7 arg8 harg8 arg9 harg9 arg10 harg10 arg11 harg11 arg12 harg12
          x0 x1 x2 x3 x4 x5 x6 hc0))) 128 := by
  sl_kernel_rfl

/-- What a point that widens the codes stores to the last output. -/
theorem piecesA_8 (hc0 : cond0_0 i) :
    (kernelRun0_A c i arg2 harg2 arg3 harg3 arg4 harg4 arg5 harg5 arg6 harg6 arg7 harg7 arg8 harg8 arg9 harg9 arg10 harg10 arg11 harg11 arg12 harg12
        hc0 x0 x1 x2 x3 x4 x5 x6).2.1 =
      [pieceO (rounded (productA c i arg2 harg2 arg3 harg3 arg4 harg4 arg5 harg5 arg6 harg6 arg7 harg7 arg8 harg8 arg9 harg9 arg10 harg10 arg11 harg11 arg12 harg12
        x0 x1 x2 x3 x4 x5 x6 hc0))] := by
  sl_kernel_rfl

/-- What a point that keeps the widened codes stores to the first output. -/
theorem piecesB_7 (hc0 : ¬cond0_0 i) :
    (kernelRun0_B c i arg2 harg2 arg3 harg3 arg4 harg4 arg5 harg5 arg6 harg6 arg7 harg7 arg8 harg8 arg9 harg9 arg10 harg10 arg11 harg11 arg12 harg12
        hc0 x0 x1 x2 x3 x4 x5 x6 xs0 xs1).1 =
      down (pieceX (strip (fun q n => View.readAt (Elt Ideal) arg12.view (coefAt q n) (harg12.unread xs1)) (loadX arg8 harg8 x6)
        (productB i arg6 harg6 arg7 harg7 arg11 harg11 x4 x5 xs0))) 128 := by
  sl_kernel_rfl

/-- What a point that keeps the widened codes stores to the last output. -/
theorem piecesB_8 (hc0 : ¬cond0_0 i) :
    (kernelRun0_B c i arg2 harg2 arg3 harg3 arg4 harg4 arg5 harg5 arg6 harg6 arg7 harg7 arg8 harg8 arg9 harg9 arg10 harg10 arg11 harg11 arg12 harg12
        hc0 x0 x1 x2 x3 x4 x5 x6 xs0 xs1).2.1 =
      [pieceO (rounded (productB i arg6 harg6 arg7 harg7 arg11 harg11 x4 x5 xs0))] := by
  sl_kernel_rfl

/-- The scratch read back through a whole load, after stores. -/
theorem readCov_whole (v : View sig .tc .vmem S1024x3584 .bf16) (L : List (View.Piece (Elt Ideal) S1024x3584 .bf16)) :
    v.readCov (Val := Elt Ideal) L (Rect.unit (s := S1024x3584) ![0, 0] S1024x3584.size inb_S1024x3584_S1024x3584_0_0).toLoadRect =
      View.canon L := by
  rw [View.readCov_eq_canon']
  exact View.ld_unit_zero (by decide) _ (View.canon L)

/-- The scratch read through a whole load. -/
theorem readAt_whole (xs : Vec Ideal S1024x3584 .bf16) :
    View.readAt (Elt Ideal) arg11.view (Rect.unit (s := S1024x3584) ![0, 0] S1024x3584.size
      inb_S1024x3584_S1024x3584_0_0).toLoadRect (harg11.unread xs) = xs := by
  refine Eq.trans ?_ (View.ld_unit_zero (by decide) inb_S1024x3584_S1024x3584_0_0 xs)
  refine (View.readAt_eq_ld _ _ _).trans ?_
  rw [harg11.read_unread]

/-- The coefficients read back after stores. -/
theorem readCov_coef (v : View sig .tc .vmem S20x1024x128 .f32) (L : List (View.Piece (Elt Ideal) S20x1024x128 .f32)) :
    (fun q n => v.readCov (Val := Elt Ideal) L (coefAt q n)) = coefOf (View.canon L) :=
  funext fun q => funext fun n => View.readCov_eq_canon' v L (coefAt q n)

/-- The coefficients read. -/
theorem readAt_coef (xs : Vec Ideal S20x1024x128 .f32) :
    (fun q n => View.readAt (Elt Ideal) arg12.view (coefAt q n) (harg12.unread xs)) = coefOf xs :=
  funext fun q => funext fun n => funext fun j => congrFun (harg12.read_unread xs) _

theorem productA_eq (hc0 : cond0_0 i) :
    productA c i arg2 harg2 arg3 harg3 arg4 harg4 arg5 harg5 arg6 harg6 arg7 harg7 arg8 harg8 arg9 harg9 arg10 harg10 arg11 harg11 arg12 harg12
      x0 x1 x2 x3 x4 x5 x6 hc0 = product (loadRow i arg6 harg6 arg7 harg7 x4 x5) (wide arg2 harg2 arg3 harg3 x0 x1) := by
  unfold productA
  rw [readCov_whole, piecesA]
  rfl

theorem productB_eq : productB i arg6 harg6 arg7 harg7 arg11 harg11 x4 x5 xs0 = product (loadRow i arg6 harg6 arg7 harg7 x4 x5) xs0 := by
  unfold productB
  rw [readAt_whole]

theorem soutA_0 (hc0 : cond0_0 i) :
    sout0_A_0 c i arg2 harg2 arg3 harg3 arg4 harg4 arg5 harg5 arg6 harg6 arg7 harg7 arg8 harg8 arg9 harg9 arg10 harg10 arg11 harg11 arg12 harg12
      hc0 x0 x1 x2 x3 x4 x5 x6 = wide arg2 harg2 arg3 harg3 x0 x1 := by
  unfold sout0_A_0
  rw [View.read_writes_junk_eq_canon, piecesA]
  rfl

theorem soutA_1 (hc0 : cond0_0 i) :
    sout0_A_1 c i arg2 harg2 arg3 harg3 arg4 harg4 arg5 harg5 arg6 harg6 arg7 harg7 arg8 harg8 arg9 harg9 arg10 harg10 arg11 harg11 arg12 harg12
      hc0 x0 x1 x2 x3 x4 x5 x6 = coefs arg4 harg4 arg5 harg5 x2 x3 := by
  unfold sout0_A_1
  rw [View.read_writes_junk_eq_canon, piecesC]
  rfl

theorem outA_7 (hc0 : cond0_0 i) :
    out0_A_7 c i arg2 harg2 arg3 harg3 arg4 harg4 arg5 harg5 arg6 harg6 arg7 harg7 arg8 harg8 arg9 harg9 arg10 harg10 arg11 harg11 arg12 harg12
      hc0 x0 x1 x2 x3 x4 x5 x6 =
      View.canon (down (pieceX (strip (coefOf (coefs arg4 harg4 arg5 harg5 x2 x3)) (loadX arg8 harg8 x6)
        (product (loadRow i arg6 harg6 arg7 harg7 x4 x5) (wide arg2 harg2 arg3 harg3 x0 x1)))) 128) := by
  unfold out0_A_7
  rw [View.read_writes_junk_eq_canon, piecesA_7, readCov_coef, piecesC, productA_eq]
  rfl

theorem outA_8 (hc0 : cond0_0 i) :
    out0_A_8 c i arg2 harg2 arg3 harg3 arg4 harg4 arg5 harg5 arg6 harg6 arg7 harg7 arg8 harg8 arg9 harg9 arg10 harg10 arg11 harg11 arg12 harg12
      hc0 x0 x1 x2 x3 x4 x5 x6 =
      View.canon [pieceO (rounded (product (loadRow i arg6 harg6 arg7 harg7 x4 x5) (wide arg2 harg2 arg3 harg3 x0 x1)))] := by
  unfold out0_A_8
  rw [View.read_writes_junk_eq_canon, piecesA_8, productA_eq]

theorem outB_7 (hc0 : ¬cond0_0 i) :
    out0_B_7 c i arg2 harg2 arg3 harg3 arg4 harg4 arg5 harg5 arg6 harg6 arg7 harg7 arg8 harg8 arg9 harg9 arg10 harg10 arg11 harg11 arg12 harg12
      hc0 x0 x1 x2 x3 x4 x5 x6 xs0 xs1 =
      View.canon (down (pieceX (strip (coefOf xs1) (loadX arg8 harg8 x6)
        (product (loadRow i arg6 harg6 arg7 harg7 x4 x5) xs0))) 128) := by
  unfold out0_B_7
  rw [View.read_writes_junk_eq_canon, piecesB_7, readAt_coef, productB_eq]

theorem outB_8 (hc0 : ¬cond0_0 i) :
    out0_B_8 c i arg2 harg2 arg3 harg3 arg4 harg4 arg5 harg5 arg6 harg6 arg7 harg7 arg8 harg8 arg9 harg9 arg10 harg10 arg11 harg11 arg12 harg12
      hc0 x0 x1 x2 x3 x4 x5 x6 xs0 xs1 =
      View.canon [pieceO (rounded (product (loadRow i arg6 harg6 arg7 harg7 x4 x5) xs0))] := by
  unfold out0_B_8
  rw [View.read_writes_junk_eq_canon, piecesB_8, productB_eq]

end Cert.DownIdeal.Hand
-- ==== Proof.DownRefs.lean ====
/-
  The down projection's reference read at an index.
-/
module

public import proofs.«01_k».proof.Proof.Gen.DownReferenceIdeal.Value
public import Idealize.ShloMosaic.Lib.Pointwise

@[expose] public section

set_option maxRecDepth 16384

noncomputable section

namespace Cert.DownReferenceIdeal.Hand

open Cert.DownReferenceIdeal Cert.DownReferenceIdeal.Gen Idealize.ShloMosaic Idealize.ShloMosaic.TcCoe Idealize.SL.Sem

/-- The widened codes at row `r`, column `k`. -/
def lhs (a0 : Vec Ideal S6144x3584 .fp8e4m3) (a1 : Vec Ideal S3x28x2048 .f32) (r : Fin 6144) (k : Fin 3584) : EReal :=
  a0 (ix2 r k) * a1 (ix3 ⟨r.val / 2048, by omega⟩ ⟨k.val / 128, by omega⟩ ⟨r.val % 2048, by omega⟩)

/-- The widened weight at row `k`, column `d`. -/
def rhs (a4 : Vec Ideal S3584x4096 .fp8e4m3) (a5 : Vec Ideal S28x32 .f32) (k : Fin 3584) (d : Fin 4096) : EReal :=
  a4 (ix2 k d) * a5 (ix2 ⟨k.val / 128, by omega⟩ ⟨d.val / 128, by omega⟩)

/-- The product of the widened codes and the widened weight at row `r`, column `d`. -/
def prod (a0 : Vec Ideal S6144x3584 .fp8e4m3) (a1 : Vec Ideal S3x28x2048 .f32) (a4 : Vec Ideal S3584x4096 .fp8e4m3)
    (a5 : Vec Ideal S28x32 .f32) (r : Fin 6144) (d : Fin 4096) : EReal :=
  ∑ k : Fin 3584, lhs a0 a1 r k * rhs a4 a5 k d

/-- A new stream from the coefficients `p` of its four old streams `x` and the coefficient `o` of the layer's output `f`. -/
def mixed (p x : Fin 4 → EReal) (o f : EReal) : EReal := p 0 * x 0 + p 1 * x 1 + p 2 * x 2 + p 3 * x 3 + o * f

/-- The product before its rounding. -/
theorem product_apply (a0 : Vec Ideal S6144x3584 .fp8e4m3) (a1 : Vec Ideal S3x28x2048 .f32) (a4 : Vec Ideal S3584x4096 .fp8e4m3)
    (a5 : Vec Ideal S28x32 .f32) (r : Fin 6144) (d : Fin 4096) : k0_pay2 a0 a1 a4 a5 (ix2 r d) = prod a0 a1 a4 a5 r d := by
  pointwise [k0_pay2, prod, lhs, rhs]

/-- The reference's last result is the product. -/
theorem G8_apply (a0 : Vec Ideal S6144x3584 .fp8e4m3) (a1 : Vec Ideal S3x28x2048 .f32) (a2 : Vec Ideal S3x16x2048 .f32)
    (a3 : Vec Ideal S3x4x2048 .f32) (a4 : Vec Ideal S3584x4096 .fp8e4m3) (a5 : Vec Ideal S28x32 .f32)
    (a6 : Vec Ideal S6144x128x128 .bf16) (r : Fin 6144) (d : Fin 4096) :
    Cert.DownReferenceIdeal.Value.G8 a0 a1 a2 a3 a4 a5 a6 (ix2 r d) = prod a0 a1 a4 a5 r d := by
  refine Eq.trans ?_ (product_apply a0 a1 a4 a5 r d)
  unfold Cert.DownReferenceIdeal.Value.G8
  pointwise [k0_pay3]

/-- The reference's first result is the mixed streams. -/
theorem mixed_apply (y : FVec Ideal S6144x4096 .f32) (a2 : Vec Ideal S3x16x2048 .f32)
    (a3 : Vec Ideal S3x4x2048 .f32) (a6 : Vec Ideal S6144x128x128 .bf16) (r : Fin 6144) (g l : Fin 128) :
    k0_pay1 y (k0_pay4 a6) (k0_pay5 a2) (k0_pay6 a3) (k0_pay7 a6 a2) (ix3 r g l) =
      mixed (fun b => a2 (ix3 ⟨r.val / 2048, by omega⟩ ⟨g.val % 4 * 4 + b.val, by omega⟩ ⟨r.val % 2048, by omega⟩))
        (fun b => a6 (ix3 r ⟨g.val / 4 * 4 + b.val, by omega⟩ l))
        (a3 (ix3 ⟨r.val / 2048, by omega⟩ ⟨g.val % 4, by omega⟩ ⟨r.val % 2048, by omega⟩))
        (y (ix2 r ⟨g.val / 4 * 128 + l.val, by omega⟩)) := by
  pointwise [k0_pay1, k0_pay4, k0_pay5, k0_pay6, k0_pay7, mixed]

/-- The reference's first result at an index. -/
theorem G7_apply (a0 : Vec Ideal S6144x3584 .fp8e4m3) (a1 : Vec Ideal S3x28x2048 .f32) (a2 : Vec Ideal S3x16x2048 .f32)
    (a3 : Vec Ideal S3x4x2048 .f32) (a4 : Vec Ideal S3584x4096 .fp8e4m3) (a5 : Vec Ideal S28x32 .f32)
    (a6 : Vec Ideal S6144x128x128 .bf16) (r : Fin 6144) (g l : Fin 128) :
    Cert.DownReferenceIdeal.Value.G7 a0 a1 a2 a3 a4 a5 a6 (ix3 r g l) =
      mixed (fun b => a2 (ix3 ⟨r.val / 2048, by omega⟩ ⟨g.val % 4 * 4 + b.val, by omega⟩ ⟨r.val % 2048, by omega⟩))
        (fun b => a6 (ix3 r ⟨g.val / 4 * 4 + b.val, by omega⟩ l))
        (a3 (ix3 ⟨r.val / 2048, by omega⟩ ⟨g.val % 4, by omega⟩ ⟨r.val % 2048, by omega⟩))
        (prod a0 a1 a4 a5 r ⟨g.val / 4 * 128 + l.val, by omega⟩) :=
  (mixed_apply _ a2 a3 a6 r g l).trans (congrArg _ (product_apply a0 a1 a4 a5 r _))

end Cert.DownReferenceIdeal.Hand
-- ==== Proof.DownPoints.lean ====
/-
  What each grid point of the down projection leaves in its buffers, and the array that the launch leaves.
-/
module

public import proofs.«01_k».proof.Proof.DownRuns
public import proofs.«01_k».proof.Proof.DownRefs
public import proofs.«01_k».proof.Proof.Gen.DownIdeal.Value

@[expose] public section

set_option maxRecDepth 16384

noncomputable section

namespace Cert.DownIdeal.Hand

open Cert.DownIdeal Cert.DownIdeal.Gen Idealize.ShloMosaic Idealize.ShloMosaic.TcCoe Idealize.SL.Sem
open Cert.KernelIdeal.Hand (down mem_down)

/-! ## The loads and the scratch at an index -/

/-- The column of a weight tile's scale. -/
theorem soff_col : ∀ (j : Fin 16) (c : Fin 2),
    (Scalar.indexCast (Scalar.addi (Scalar.muli (BitVec.ofNat 32 j.val) 2#32) (BitVec.ofNat 32 c.val))).toNat = 2 * j.val + c.val := by
  decide +kernel

/-- A weight tile at an index. -/
theorem loadW_apply (i : grid0.Coords) (w : Memref sig .tc .vmem S3584x256 .fp8e4m3) (hw : w.IsWhole)
    (s : Memref sig .tc .smem S28x32 .f32) (hs : s.IsWhole) (x : Vec Ideal S3584x256 .fp8e4m3) (y : Vec Ideal S28x32 .f32)
    (k : Fin 28) (h : Fin 2) (r l : Fin 128) (K : Fin 3584) (c : Fin 256) (n : Fin 32) (hK : K.val = 128 * k.val + r.val)
    (hc : c.val = 128 * h.val + l.val) (hn : n.val = 2 * (i 1).val + h.val) :
    loadW i w hw s hs x y k h (ix2 r l) = x (ix2 K c) * y (ix2 k n) := by
  rw [loadW, wTile_apply, View.readAt_apply, View.readAt_apply, hw.read_unread, hs.read_unread]
  refine congrArg₂ (fun a b : EReal => a * b) (congrArg x (funext fun a => Fin.ext ?_)) (congrArg y (funext fun a => Fin.ext ?_))
  · match a with
    | 0 => show 128 * k.val + 1 * r.val = K.val; omega
    | 1 => show 128 * h.val + 1 * l.val = c.val; omega
  · match a with
    | 0 => rfl
    | 1 =>
      refine Eq.trans ?_ hn.symm
      exact soff_col (i 1) h

/-- The stacked tiles of the weight at an index. -/
theorem stackW_apply (i : grid0.Coords) (w : Memref sig .tc .vmem S3584x256 .fp8e4m3) (hw : w.IsWhole)
    (s : Memref sig .tc .smem S28x32 .f32) (hs : s.IsWhole) (x : Vec Ideal S3584x256 .fp8e4m3) (y : Vec Ideal S28x32 .f32)
    (K : Fin 3584) (c : Fin 256) (n : Fin 32) (hn : n.val = 2 * (i 1).val + c.val / 128) :
    stack (loadRow i w hw s hs x y) (ix2 K c) = x (ix2 K c) * y (ix2 ⟨K.val / 128, by omega⟩ n) := by
  rw [stack_apply _ ⟨K.val / 128, by omega⟩ ⟨K.val % 128, by omega⟩ c K (by simp only; omega), loadRow,
    pair_apply _ ⟨c.val / 128, by omega⟩ _ ⟨c.val % 128, by omega⟩ c (by simp only; omega)]
  exact loadW_apply i w hw s hs x y _ _ _ _ K c n (by simp only; omega) (by simp only; omega) hn

/-- The scales of a group's codes at an index. -/
theorem loadS_apply (arg3 : Memref sig .tc .vmem S1x28x1024 .f32) (harg3 : arg3.IsWhole) (x1 : Vec Ideal S1x28x1024 .f32)
    (q : Fin 8) (k : Fin 28) (r : Fin 128) (R : Fin 1024) (hR : R.val = 128 * q.val + r.val) :
    loadS arg3 harg3 x1 q (ix3 0 k r) = x1 (ix3 0 k R) := by
  rw [loadS, View.readAt_apply, harg3.read_unread]
  refine congrArg x1 (funext fun a => Fin.ext ?_)
  match a with
  | 0 => rfl
  | 1 => show 0 + 1 * k.val = k.val; omega
  | 2 => show 128 * q.val + 1 * r.val = R.val; omega

/-- A tile of the codes at an index. -/
theorem loadA_apply (arg2 : Memref sig .tc .vmem S1024x3584 .fp8e4m3) (harg2 : arg2.IsWhole) (x0 : Vec Ideal S1024x3584 .fp8e4m3)
    (q : Fin 8) (k : Fin 28) (r c : Fin 128) (R : Fin 1024) (K : Fin 3584) (hR : R.val = 128 * q.val + r.val)
    (hK : K.val = 128 * k.val + c.val) :
    loadA arg2 harg2 x0 q k (ix2 r c) = x0 (ix2 R K) := by
  refine (congrFun (harg2.read_unread x0) _).trans ?_
  refine congrArg x0 (funext fun a => Fin.ext ?_)
  match a with
  | 0 => show (128 * q.val + 0) + 1 * r.val = R.val; omega
  | 1 => show (0 + 128 * k.val) + 1 * c.val = K.val; omega

/-- The scratch: the widened codes. -/
theorem canonA (arg2 : Memref sig .tc .vmem S1024x3584 .fp8e4m3) (harg2 : arg2.IsWhole) (x0 : Vec Ideal S1024x3584 .fp8e4m3)
    (arg3 : Memref sig .tc .vmem S1x28x1024 .f32) (harg3 : arg3.IsWhole) (x1 : Vec Ideal S1x28x1024 .f32) (R : Fin 1024) (K : Fin 3584) :
    View.canon (down (pieceA (loadS arg3 harg3 x1) (loadA arg2 harg2 x0)) 224) (ix2 R K) =
      x0 (ix2 R K) * x1 (ix3 0 ⟨K.val / 128, by omega⟩ R) := by
  refine (View.canon_apply_of_pieces (Val := Elt Ideal) (e := .bf16) (fun y : S1024x3584.Idx =>
    (x0 y : EReal) * x1 (ix3 0 ⟨(y 1).val / 128, by have : (y 1).val < 3584 := (y 1).isLt; omega⟩ (y 0))) _ ?_ _ ?_).trans rfl
  · intro p hp x
    obtain ⟨n, hn, rfl⟩ := (mem_down _ _ _).1 hp
    obtain ⟨r, c, rfl⟩ : ∃ (r c : Fin 128), x = ix2 r c := ⟨x 0, x 1, eq_ix2 x⟩
    refine (aTile_apply _ _ _ r c).trans ?_
    refine congrArg₂ (fun a b : EReal => a * b) ?_ ?_
    · refine (loadA_apply arg2 harg2 x0 _ _ r c ⟨128 * (tileRow n).val + r.val, by omega⟩ ⟨128 * (tileCol n).val + c.val, by omega⟩
        rfl rfl).trans (congrArg x0 (funext fun a => Fin.ext ?_))
      match a with
      | 0 => show 128 * (tileRow n).val + r.val = 128 * (tileRow n).val + 1 * r.val; omega
      | 1 => show 128 * (tileCol n).val + c.val = 128 * (tileCol n).val + 1 * c.val; omega
    · refine (loadS_apply arg3 harg3 x1 _ (tileCol n) r ⟨128 * (tileRow n).val + r.val, by omega⟩ rfl).trans
        (congrArg x1 (congrArg₂ (ix3 0) (Fin.ext ?_) (Fin.ext ?_)))
      · show (tileCol n).val = (128 * (tileCol n).val + 1 * c.val) / 128; omega
      · show 128 * (tileRow n).val + r.val = 128 * (tileRow n).val + 1 * r.val; omega
  · refine ⟨_, (mem_down _ _ _).2 ⟨28 * (R.val / 128) + K.val / 128, by omega, rfl⟩, (Rect.mem_set_unit (inb := inb_wide _ _)).2 fun a => ?_⟩
    match a with
    | 0 =>
      show 128 * ((28 * (R.val / 128) + K.val / 128) / 28 % 8) ≤ R.val ∧ R.val < 128 * ((28 * (R.val / 128) + K.val / 128) / 28 % 8) + 128
      omega
    | 1 =>
      show 128 * ((28 * (R.val / 128) + K.val / 128) % 28) ≤ K.val ∧ K.val < 128 * ((28 * (R.val / 128) + K.val / 128) % 28) + 128
      omega

/-- A group's coefficients of the mixing map at an index. -/
theorem loadP_apply (arg4 : Memref sig .tc .vmem S1x16x1024 .f32) (harg4 : arg4.IsWhole) (x2 : Vec Ideal S1x16x1024 .f32)
    (q : Fin 8) (n : Fin 16) (r : Fin 128) (R : Fin 1024) (hR : R.val = 128 * q.val + r.val) :
    loadP arg4 harg4 x2 q (ix3 0 n r) = x2 (ix3 0 n R) := by
  rw [loadP, View.readAt_apply, harg4.read_unread]
  refine congrArg x2 (funext fun a => Fin.ext ?_)
  match a with
  | 0 => rfl
  | 1 => show 0 + 1 * n.val = n.val; omega
  | 2 => show 128 * q.val + 1 * r.val = R.val; omega

/-- A group's coefficients of the output map at an index. -/
theorem loadO_apply (arg5 : Memref sig .tc .vmem S1x4x1024 .f32) (harg5 : arg5.IsWhole) (x3 : Vec Ideal S1x4x1024 .f32)
    (q : Fin 8) (n : Fin 4) (r : Fin 128) (R : Fin 1024) (hR : R.val = 128 * q.val + r.val) :
    loadO arg5 harg5 x3 q (ix3 0 n r) = x3 (ix3 0 n R) := by
  rw [loadO, View.readAt_apply, harg5.read_unread]
  refine congrArg x3 (funext fun a => Fin.ext ?_)
  match a with
  | 0 => rfl
  | 1 => show 0 + 1 * n.val = n.val; omega
  | 2 => show 128 * q.val + 1 * r.val = R.val; omega

/-- A strip's old streams at an index. -/
theorem loadX_apply (arg8 : Memref sig .tc .vmem S1024x8x128 .bf16) (harg8 : arg8.IsWhole) (x6 : Vec Ideal S1024x8x128 .bf16)
    (q : Fin 128) (r : Fin 8) (g : Fin 8) (l : Fin 128) (R : Fin 1024) (hR : R.val = 8 * q.val + r.val) :
    loadX arg8 harg8 x6 q (ix3 r g l) = x6 (ix3 R g l) := by
  rw [loadX, View.readAt_apply, harg8.read_unread]
  refine congrArg x6 (funext fun a => Fin.ext ?_)
  match a with
  | 0 => show 8 * q.val + 1 * r.val = R.val; omega
  | 1 => show 0 + 1 * g.val = g.val; omega
  | 2 => show 0 + 1 * l.val = l.val; omega

/-- A strip's coefficient at an index. -/
theorem coefOf_apply (v : Vec Ideal S20x1024x128 .f32) (q : Fin 128) (n : Fin 20) (r : Fin 8) (l : Fin 128) (R : Fin 1024)
    (hR : R.val = 8 * q.val + r.val) : coefOf v q n (ix3 0 r l) = v (ix3 n R l) := by
  refine congrArg v (funext fun a => Fin.ext ?_)
  match a with
  | 0 => show n.val + 1 * 0 = n.val; omega
  | 1 => show 8 * q.val + 1 * r.val = R.val; omega
  | 2 => show 0 + 1 * l.val = l.val; omega

/-- The coefficients in the scratch, row by row: the 16 of the mixing map, then the 4 of the output map. -/
def coefVal (x2 : Vec Ideal S1x16x1024 .f32) (x3 : Vec Ideal S1x4x1024 .f32) (n : Fin 20) (R : Fin 1024) : EReal :=
  if h : n.val < 16 then x2 (ix3 0 ⟨n.val, h⟩ R) else x3 (ix3 0 ⟨n.val - 16, by omega⟩ R)

/-- A stored coefficient at an index. -/
theorem cTile_load (arg4 : Memref sig .tc .vmem S1x16x1024 .f32) (harg4 : arg4.IsWhole) (arg5 : Memref sig .tc .vmem S1x4x1024 .f32)
    (harg5 : arg5.IsWhole) (x2 : Vec Ideal S1x16x1024 .f32) (x3 : Vec Ideal S1x4x1024 .f32) (q : Fin 8) (n : Fin 20) (r l : Fin 128)
    (R : Fin 1024) (hR : R.val = 128 * q.val + r.val) :
    cTile (loadP arg4 harg4 x2 q) (loadO arg5 harg5 x3 q) n (ix3 0 r l) = coefVal x2 x3 n R := by
  by_cases h : n.val < 16
  · refine (cTile_left _ _ ⟨n.val, h⟩ n rfl r l).trans ((loadP_apply arg4 harg4 x2 q _ r R hR).trans ?_)
    rw [coefVal, dif_pos h]
  · refine (cTile_right _ _ ⟨n.val - 16, by omega⟩ n (by simp only; omega) r l).trans ((loadO_apply arg5 harg5 x3 q _ r R hR).trans ?_)
    rw [coefVal, dif_neg h]

/-- The scratch: the coefficients. -/
theorem canonC (arg4 : Memref sig .tc .vmem S1x16x1024 .f32) (harg4 : arg4.IsWhole) (arg5 : Memref sig .tc .vmem S1x4x1024 .f32)
    (harg5 : arg5.IsWhole) (x2 : Vec Ideal S1x16x1024 .f32) (x3 : Vec Ideal S1x4x1024 .f32) (n : Fin 20) (R : Fin 1024) (l : Fin 128) :
    coefs arg4 harg4 arg5 harg5 x2 x3 (ix3 n R l) = coefVal x2 x3 n R := by
  refine (View.canon_apply_of_pieces (Val := Elt Ideal) (e := .f32) (fun y : S20x1024x128.Idx => coefVal x2 x3 (y 0) (y 1)) _ ?_ _ ?_).trans
    rfl
  · intro p hp x
    obtain ⟨N, hN, rfl⟩ := (mem_down _ _ _).1 hp
    obtain ⟨z, r, l', rfl⟩ : ∃ (z : Fin 1) (r l' : Fin 128), x = ix3 z r l' := ⟨x 0, x 1, x 2, eq_ix3 x⟩
    have hz : z = 0 := Subsingleton.elim _ _
    rw [hz]
    refine (cTile_load arg4 harg4 arg5 harg5 x2 x3 _ _ r l' ⟨128 * (coefRow N).val + r.val, by omega⟩ rfl).trans ?_
    refine congrArg₂ (coefVal x2 x3) (Fin.ext ?_) (Fin.ext ?_)
    · show (coefCol N).val = (coefCol N).val + 1 * 0; omega
    · show 128 * (coefRow N).val + r.val = 128 * (coefRow N).val + 1 * r.val; omega
  · refine ⟨_, (mem_down _ _ _).2 ⟨20 * (R.val / 128) + n.val, by omega, rfl⟩, (Rect.mem_set_unit (inb := inb_coef _ _)).2 fun a => ?_⟩
    match a with
    | 0 =>
      show (20 * (R.val / 128) + n.val) % 20 ≤ n.val ∧ n.val < (20 * (R.val / 128) + n.val) % 20 + 1
      omega
    | 1 =>
      show 128 * ((20 * (R.val / 128) + n.val) / 20 % 8) ≤ R.val ∧ R.val < 128 * ((20 * (R.val / 128) + n.val) / 20 % 8) + 128
      omega
    | 2 => show 0 ≤ l.val ∧ l.val < 0 + 128; omega

/-- A strip of the new streams at an index. -/
theorem strip_apply (v : Vec Ideal S20x1024x128 .f32) (arg8 : Memref sig .tc .vmem S1024x8x128 .bf16) (harg8 : arg8.IsWhole)
    (x6 : Vec Ideal S1024x8x128 .bf16) (y : FVec Ideal S1024x256 .f32) (q : Fin 128) (r : Fin 8) (g : Fin 8) (l : Fin 128)
    (R : Fin 1024) (hR : R.val = 8 * q.val + r.val) :
    strip (coefOf v) (loadX arg8 harg8 x6) y q (ix3 r g l) =
      Cert.DownReferenceIdeal.Hand.mixed (fun b => v (ix3 ⟨g.val % 4 * 4 + b.val, by omega⟩ R l))
        (fun b => x6 (ix3 R ⟨g.val / 4 * 4 + b.val, by omega⟩ l)) (v (ix3 ⟨16 + g.val % 4, by omega⟩ R l))
        (y (ix2 R ⟨g.val / 4 * 128 + l.val, by omega⟩)) := by
  have hc (n : Fin 20) : coefOf v q n (ix3 0 r l) = v (ix3 n R l) := coefOf_apply v q n r l R hR
  have hx (g : Fin 8) : loadX arg8 harg8 x6 q (ix3 r g l) = x6 (ix3 R g l) := loadX_apply arg8 harg8 x6 q r g l R hR
  rw [strip, streams_apply _ ⟨g.val / 4, by omega⟩ ⟨g.val % 4, by omega⟩ r l g (by simp only; omega), mix_apply,
    partTerm_apply _ _ _ _ r l R ⟨g.val / 4 * 128 + l.val, by omega⟩ hR (by simp only; omega)]
  simp only [term_apply, hc, hx]
  have e (n : ℕ) : 4 * n = n * 4 := Nat.mul_comm 4 n
  simp only [e]
  rfl

/-- The first output holds the new streams. -/
theorem canonX (v : Vec Ideal S20x1024x128 .f32) (arg8 : Memref sig .tc .vmem S1024x8x128 .bf16) (harg8 : arg8.IsWhole)
    (x6 : Vec Ideal S1024x8x128 .bf16) (y : FVec Ideal S1024x256 .f32) (R : Fin 1024) (g : Fin 8) (l : Fin 128) :
    View.canon (down (pieceX (strip (coefOf v) (loadX arg8 harg8 x6) y)) 128) (ix3 R g l) =
      Cert.DownReferenceIdeal.Hand.mixed (fun b => v (ix3 ⟨g.val % 4 * 4 + b.val, by omega⟩ R l))
        (fun b => x6 (ix3 R ⟨g.val / 4 * 4 + b.val, by omega⟩ l)) (v (ix3 ⟨16 + g.val % 4, by omega⟩ R l))
        (y (ix2 R ⟨g.val / 4 * 128 + l.val, by omega⟩)) := by
  refine (View.canon_apply_of_pieces (Val := Elt Ideal) (e := .bf16) (fun z : S1024x8x128.Idx =>
    strip (coefOf v) (loadX arg8 harg8 x6) y ⟨(z 0).val / 8, by have : (z 0).val < 1024 := (z 0).isLt; omega⟩
      (ix3 ⟨(z 0).val % 8, by omega⟩ (z 1) (z 2))) _ ?_ _ ?_).trans
    (strip_apply v arg8 harg8 x6 y ⟨R.val / 8, by omega⟩ ⟨R.val % 8, by omega⟩ g l R (by simp only; omega))
  · intro p hp x
    obtain ⟨n, hn, rfl⟩ := (mem_down _ _ _).1 hp
    obtain ⟨r, g', l', rfl⟩ : ∃ (r : Fin 8) (g' : Fin 8) (l' : Fin 128), x = ix3 r g' l' := ⟨x 0, x 1, x 2, eq_ix3 x⟩
    have hq : (⟨n % 128, Nat.mod_lt _ (by decide)⟩ : Fin 128) = ⟨(8 * (n % 128) + 1 * r.val) / 8, by omega⟩ := Fin.ext (by simp only; omega)
    refine congrArg₂ (strip (coefOf v) (loadX arg8 harg8 x6) y) hq (funext fun a => Fin.ext ?_)
    match a with
    | 0 => show r.val = (8 * (n % 128) + 1 * r.val) % 8; omega
    | 1 => show g'.val = 0 + 1 * g'.val; omega
    | 2 => show l'.val = 0 + 1 * l'.val; omega
  · refine ⟨_, (mem_down _ _ _).2 ⟨R.val / 8, by omega, rfl⟩, (Rect.mem_set_unit (inb := inb_streams _)).2 fun a => ?_⟩
    match a with
    | 0 => show 8 * (R.val / 8 % 128) ≤ R.val ∧ R.val < 8 * (R.val / 8 % 128) + 8; omega
    | 1 => show 0 ≤ g.val ∧ g.val < 0 + 8; omega
    | 2 => show 0 ≤ l.val ∧ l.val < 0 + 128; omega

/-- The last output holds the one value stored. -/
theorem canonO (v : FVec Ideal S1024x256 .bf16) (R : Fin 1024) (l : Fin 256) : View.canon [pieceO v] (ix2 R l) = v (ix2 R l) := by
  refine View.canon_apply_of_pieces (Val := Elt Ideal) (e := .bf16) v _ ?_ _ ?_
  · intro p hp x
    obtain rfl := List.mem_singleton.1 hp
    refine congrArg v (funext fun a => Fin.ext ?_)
    match a with
    | 0 => show (x 0).val = 0 + 1 * (x 0).val; omega
    | 1 => show (x 1).val = 0 + 1 * (x 1).val; omega
  · refine ⟨_, List.mem_singleton.2 rfl, (Rect.mem_set_unit (inb := inb_S1024x256_S1024x256_0_0)).2 fun a => ?_⟩
    match a with
    | 0 => show 0 ≤ R.val ∧ R.val < 0 + 1024; omega
    | 1 => show 0 ≤ l.val ∧ l.val < 0 + 256; omega

/-! ## The points -/

variable (m : (ℓ : Loc nD τ sig) → Buf (Elt Ideal) ℓ) (c : Dev nD)

/-- The blocks of a point. -/
theorem index (t : Fin cfg0.N) :
    win0_0.index t = ![t.val / 16, 0] ∧ win0_1.index t = ![t.val / 16 / 2, 0, t.val / 16 % 2] ∧
      win0_2.index t = ![t.val / 16 / 2, 0, t.val / 16 % 2] ∧ win0_3.index t = ![t.val / 16 / 2, 0, t.val / 16 % 2] ∧
      win0_4.index t = ![0, t.val % 16] ∧ win0_5.index t = ![0, 0] ∧ win0_6.index t = ![t.val / 16, t.val % 16, 0] ∧
      win0_7.index t = ![t.val / 16, t.val % 16, 0] ∧ win0_8.index t = ![t.val / 16, t.val % 16] :=
  (by decide +kernel : ∀ t : Fin grid0.N, win0_0.index t = ![t.val / 16, 0] ∧ win0_1.index t = ![t.val / 16 / 2, 0, t.val / 16 % 2] ∧
      win0_2.index t = ![t.val / 16 / 2, 0, t.val / 16 % 2] ∧ win0_3.index t = ![t.val / 16 / 2, 0, t.val / 16 % 2] ∧
      win0_4.index t = ![0, t.val % 16] ∧ win0_5.index t = ![0, 0] ∧ win0_6.index t = ![t.val / 16, t.val % 16, 0] ∧
      win0_7.index t = ![t.val / 16, t.val % 16, 0] ∧ win0_8.index t = ![t.val / 16, t.val % 16]) t

/-- The block of the codes. -/
theorem block0 (t : Fin cfg0.N) (R : Fin 1024) (k : Fin 3584) (r : Fin 6144) (hr : r.val = 1024 * (t.val / 16) + R.val) :
    iblk m c 0 t (ix2 R k) = V m c main_arg0 (ix2 r k) := by
  blk_ext [iblk, (index t).1]

/-- The block of their scales. -/
theorem block1 (t : Fin cfg0.N) (k : Fin 28) (R : Fin 1024) (b : Fin 3) (s : Fin 2048) (hb : b.val = t.val / 16 / 2)
    (hs : s.val = 1024 * (t.val / 16 % 2) + R.val) :
    iblk m c 1 t (ix3 0 k R) = V m c main_arg1 (ix3 b k s) := by
  blk_ext [iblk, (index t).2.1]

/-- The block of the mixing map. -/
theorem block2 (t : Fin cfg0.N) (n : Fin 16) (R : Fin 1024) (b : Fin 3) (s : Fin 2048) (hb : b.val = t.val / 16 / 2)
    (hs : s.val = 1024 * (t.val / 16 % 2) + R.val) :
    iblk m c 2 t (ix3 0 n R) = V m c main_arg2 (ix3 b n s) := by
  blk_ext [iblk, (index t).2.2.1]

/-- The block of the output map. -/
theorem block3 (t : Fin cfg0.N) (n : Fin 4) (R : Fin 1024) (b : Fin 3) (s : Fin 2048) (hb : b.val = t.val / 16 / 2)
    (hs : s.val = 1024 * (t.val / 16 % 2) + R.val) :
    iblk m c 3 t (ix3 0 n R) = V m c main_arg3 (ix3 b n s) := by
  blk_ext [iblk, (index t).2.2.2.1]

/-- The block of the old streams. -/
theorem block6 (t : Fin cfg0.N) (R : Fin 1024) (g : Fin 8) (l : Fin 128) (r : Fin 6144) (d : Fin 128)
    (hr : r.val = 1024 * (t.val / 16) + R.val) (hd : d.val = 8 * (t.val % 16) + g.val) :
    iblk m c 6 t (ix3 R g l) = V m c main_arg6 (ix3 r d l) := by
  blk_ext [iblk, (index t).2.2.2.2.2.2.1]

/-- The block of the weight. -/
theorem block4 (t : Fin cfg0.N) (k : Fin 3584) (l : Fin 256) (d : Fin 4096) (hd : d.val = 256 * (t.val % 16) + l.val) :
    iblk m c 4 t (ix2 k l) = V m c main_arg4 (ix2 k d) := by
  blk_ext [iblk, (index t).2.2.2.2.1]

/-- The weight's scales. -/
theorem block5 (t : Fin cfg0.N) (k : Fin 28) (j : Fin 32) : iblk m c 5 t (ix2 k j) = V m c main_arg5 (ix2 k j) := by
  blk_ext [iblk, (index t).2.2.2.2.2.1]

/-- The number of points. -/
theorem lt_points (t : Fin cfg0.N) : t.val < 96 := lt_of_lt_of_eq t.isLt N_0

/-- The second coordinate of a point. -/
theorem coord1 (t : Fin cfg0.N) : (grid0.coords t 1).val = t.val % 16 :=
  (by decide +kernel : ∀ t : Fin grid0.N, (grid0.coords t 1).val = t.val % 16) t

/-- The row of the result that a point's row `R` is. -/
def rowOf (t : Fin cfg0.N) (R : Fin 1024) : Fin 6144 := ⟨1024 * (t.val / 16) + R.val, by have := lt_points t; omega⟩

/-- The column of the result that a point's column `l` is. -/
def colOf (t : Fin cfg0.N) (l : Fin 256) : Fin 4096 := ⟨256 * (t.val % 16) + l.val, by omega⟩

/-- The stream of the result that a point's stream `g` is. -/
def streamOf (t : Fin cfg0.N) (g : Fin 8) : Fin 128 := ⟨8 * (t.val % 16) + g.val, by omega⟩

/-- The scratch holds the coefficients of the point's rows. -/
def Coefs (t : Fin cfg0.N) (v : Vec Ideal S20x1024x128 .f32) : Prop :=
  ∀ (R : Fin 1024) (l : Fin 128),
    (∀ n : Fin 16, v (ix3 ⟨n.val, by omega⟩ R l) = V m c main_arg2 (ix3 ⟨(rowOf t R).val / 2048, by omega⟩ n ⟨(rowOf t R).val % 2048, by omega⟩)) ∧
    ∀ n : Fin 4, v (ix3 ⟨16 + n.val, by omega⟩ R l) = V m c main_arg3 (ix3 ⟨(rowOf t R).val / 2048, by omega⟩ n ⟨(rowOf t R).val % 2048, by omega⟩)

/-- What a point that makes the coefficients leaves in the scratch. -/
theorem coefs_point (t : Fin cfg0.N) :
    Coefs m c t (coefs (ms0_2 t) (hs0_2 t) (ms0_3 t) (hs0_3 t) (iblk m c 2 t) (iblk m c 3 t)) := by
  intro R l
  have ht := lt_points t
  have hb : (rowOf t R).val / 2048 = t.val / 16 / 2 := by
    show (1024 * (t.val / 16) + R.val) / 2048 = t.val / 16 / 2
    omega
  have hs : (rowOf t R).val % 2048 = 1024 * (t.val / 16 % 2) + R.val := by
    show (1024 * (t.val / 16) + R.val) % 2048 = 1024 * (t.val / 16 % 2) + R.val
    omega
  refine ⟨fun n => ?_, fun n => ?_⟩
  · refine (canonC (ms0_2 t) (hs0_2 t) (ms0_3 t) (hs0_3 t) (iblk m c 2 t) (iblk m c 3 t) _ R l).trans ?_
    refine (dif_pos n.isLt).trans ?_
    exact block2 m c t n R _ _ hb hs
  · refine (canonC (ms0_2 t) (hs0_2 t) (ms0_3 t) (hs0_3 t) (iblk m c 2 t) (iblk m c 3 t) _ R l).trans ?_
    refine (dif_neg (by simp only; omega)).trans ?_
    have e : (⟨16 + n.val - 16, by omega⟩ : Fin 4) = n := Fin.ext (by simp only; omega)
    refine (congrArg (fun n => iblk m c 3 t (ix3 0 n R)) e).trans ?_
    exact block3 m c t n R _ _ hb hs

/-- The scratch holds the widened codes of the point's rows. -/
def Wide (t : Fin cfg0.N) (aw : Vec Ideal S1024x3584 .bf16) : Prop :=
  ∀ (R : Fin 1024) (k : Fin 3584), aw (ix2 R k) =
    Cert.DownReferenceIdeal.Hand.lhs (V m c main_arg0) (V m c main_arg1) (rowOf t R) k

/-- What a point that widens the codes leaves in the scratch. -/
theorem wide_point (t : Fin cfg0.N) :
    Wide m c t (wide (ms0_0 t) (hs0_0 t) (ms0_1 t) (hs0_1 t) (iblk m c 0 t) (iblk m c 1 t)) := by
  intro R k
  have ht := lt_points t
  refine (canonA (ms0_0 t) (hs0_0 t) (iblk m c 0 t) (ms0_1 t) (hs0_1 t) (iblk m c 1 t) R k).trans ?_
  refine congrArg₂ (fun x y : EReal => x * y) (block0 m c t R k (rowOf t R) rfl) ?_
  refine block1 m c t ⟨k.val / 128, by omega⟩ R ⟨(rowOf t R).val / 2048, by omega⟩ ⟨(rowOf t R).val % 2048, by omega⟩ ?_ ?_
  · show (1024 * (t.val / 16) + R.val) / 2048 = t.val / 16 / 2
    omega
  · show (1024 * (t.val / 16) + R.val) % 2048 = 1024 * (t.val / 16 % 2) + R.val
    omega

/-- The product of a point. -/
def prods (t : Fin cfg0.N) (aw : Vec Ideal S1024x3584 .bf16) : FVec Ideal S1024x256 .f32 :=
  product (loadRow (grid0.coords t) (ms0_4 t) (hs0_4 t) (ms0_5 t) (hs0_5 t) (iblk m c 4 t) (iblk m c 5 t)) aw

/-- The product of a point at an index. -/
theorem prods_apply (t : Fin cfg0.N) (aw : Vec Ideal S1024x3584 .bf16) (h : Wide m c t aw) (R : Fin 1024) (l : Fin 256) :
    prods m c t aw (ix2 R l) = Cert.DownReferenceIdeal.Hand.prod (V m c main_arg0) (V m c main_arg1) (V m c main_arg4)
      (V m c main_arg5) (rowOf t R) (colOf t l) := by
  refine (product_apply _ aw R l).trans (Finset.sum_congr rfl fun k _ => ?_)
  refine congrArg₂ (fun x y : EReal => x * y) (h R k) ?_
  refine (stackW_apply (grid0.coords t) (ms0_4 t) (hs0_4 t) (ms0_5 t) (hs0_5 t) (iblk m c 4 t) (iblk m c 5 t) k l
    ⟨(colOf t l).val / 128, by omega⟩ ?_).trans ?_
  · rw [coord1]
    show (256 * (t.val % 16) + l.val) / 128 = 2 * (t.val % 16) + l.val / 128
    omega
  · exact congrArg₂ (fun x y : EReal => x * y) (block4 m c t k l (colOf t l) rfl) (block5 m c t _ _)

/-- The stores of a point to the first output. -/
def news (t : Fin cfg0.N) (aw : Vec Ideal S1024x3584 .bf16) (v : Vec Ideal S20x1024x128 .f32) : Vec Ideal S1024x8x128 .bf16 :=
  View.canon (down (pieceX (strip (coefOf v) (loadX (ms0_6 t) (hs0_6 t) (iblk m c 6 t)) (prods m c t aw))) 128)

/-- What a point leaves in the outputs and in the scratch. -/
theorem point_case (t : Fin cfg0.N) : ∃ aw v,
    outsAt0 m c t.val t.isLt = (news m c t aw v, View.canon [pieceO (rounded (prods m c t aw))], aw, v) ∧
      (t.val % 16 = 0 ∧ aw = wide (ms0_0 t) (hs0_0 t) (ms0_1 t) (hs0_1 t) (iblk m c 0 t) (iblk m c 1 t) ∧
          v = coefs (ms0_2 t) (hs0_2 t) (ms0_3 t) (hs0_3 t) (iblk m c 2 t) (iblk m c 3 t) ∨
        ¬ t.val % 16 = 0 ∧ aw = (outsAt0 m c (t.val - 1) (Nat.lt_of_le_of_lt (Nat.sub_le _ _) t.isLt)).2.2.1 ∧
          v = (outsAt0 m c (t.val - 1) (Nat.lt_of_le_of_lt (Nat.sub_le _ _) t.isLt)).2.2.2) := by
  by_cases h0 : t.val % 16 = 0
  · refine ⟨_, _, ?_, .inl ⟨h0, rfl, rfl⟩⟩
    rw [outsAt0_A m c t h0, outA_7, outA_8, soutA_0, soutA_1]
    rfl
  · refine ⟨_, _, ?_, .inr ⟨h0, rfl, rfl⟩⟩
    rw [outsAt0_B m c t h0, outB_7, outB_8]
    rfl

/-- The four parts of a tuple. -/
theorem parts {α β γ δ : Type} {x : α × β × γ × δ} {x1 : α} {x2 : β} {x3 : γ} {x4 : δ} (h : x = (x1, x2, x3, x4)) :
    x.1 = x1 ∧ x.2.1 = x2 ∧ x.2.2.1 = x3 ∧ x.2.2.2 = x4 := by
  subst h
  exact ⟨rfl, rfl, rfl, rfl⟩

/-- The scratch holds the widened codes and the coefficients after every point. -/
theorem scratch (n : ℕ) (hn : n < cfg0.N) :
    Wide m c ⟨n, hn⟩ (outsAt0 m c n hn).2.2.1 ∧ Coefs m c ⟨n, hn⟩ (outsAt0 m c n hn).2.2.2 := by
  induction n with
  | zero =>
    obtain ⟨aw, v, he, ⟨_, ha, hv⟩ | ⟨hne, _⟩⟩ := point_case m c ⟨0, hn⟩
    · have h3 : (outsAt0 m c 0 hn).2.2.1 = aw := (parts he).2.2.1
      have h4 : (outsAt0 m c 0 hn).2.2.2 = v := (parts he).2.2.2
      rw [h3, h4, ha, hv]
      exact ⟨wide_point m c ⟨0, hn⟩, coefs_point m c ⟨0, hn⟩⟩
    · exact absurd (Nat.zero_mod 16) hne
  | succ n ih =>
    obtain ⟨aw, v, he, hcase⟩ := point_case m c ⟨n + 1, hn⟩
    have h3 : (outsAt0 m c (n + 1) hn).2.2.1 = aw := (parts he).2.2.1
    have h4 : (outsAt0 m c (n + 1) hn).2.2.2 = v := (parts he).2.2.2
    rw [h3, h4]
    obtain ⟨_, ha, hv⟩ | ⟨hne, ha, hv⟩ := hcase
    · rw [ha, hv]
      exact ⟨wide_point m c ⟨n + 1, hn⟩, coefs_point m c ⟨n + 1, hn⟩⟩
    · rw [ha, hv]
      have hr (R : Fin 1024) : rowOf ⟨n, Nat.lt_of_succ_lt hn⟩ R = rowOf ⟨n + 1, hn⟩ R := Fin.ext (by
        show 1024 * (n / 16) + R.val = 1024 * ((n + 1) / 16) + R.val
        have : ¬ (n + 1) % 16 = 0 := hne
        omega)
      refine ⟨fun R k => ?_, fun R l => ?_⟩
      · refine ((ih (Nat.lt_of_succ_lt hn)).1 R k).trans ?_
        rw [hr]
      · have h := (ih (Nat.lt_of_succ_lt hn)).2 R l
        simp only [hr] at h
        exact h

/-- The scratch at a point, by the names of `point_case`. -/
theorem point_scratch (t : Fin cfg0.N) : ∃ aw v,
    outsAt0 m c t.val t.isLt = (news m c t aw v, View.canon [pieceO (rounded (prods m c t aw))], aw, v) ∧
      Wide m c t aw ∧ Coefs m c t v := by
  obtain ⟨aw, v, he, _⟩ := point_case m c t
  refine ⟨aw, v, he, ?_, ?_⟩
  · rw [← (parts he).2.2.1]
    exact (scratch m c t.val t.isLt).1
  · rw [← (parts he).2.2.2]
    exact (scratch m c t.val t.isLt).2

/-- A point's block of the first result. -/
theorem point7 (t : Fin cfg0.N) (R : Fin 1024) (g : Fin 8) (l : Fin 128) : (outsAt0 m c t.val t.isLt).1 (ix3 R g l) =
    Cert.DownReferenceIdeal.Value.G7 (V m c main_arg0) (V m c main_arg1) (V m c main_arg2) (V m c main_arg3) (V m c main_arg4)
      (V m c main_arg5) (V m c main_arg6) (ix3 (rowOf t R) (streamOf t g) l) := by
  obtain ⟨aw, v, he, ha, hv⟩ := point_scratch m c t
  rw [(parts he).1]
  refine Eq.trans ?_ (Cert.DownReferenceIdeal.Hand.G7_apply _ _ _ _ _ _ _ (rowOf t R) (streamOf t g) l).symm
  refine (canonX v (ms0_6 t) (hs0_6 t) (iblk m c 6 t) (prods m c t aw) R g l).trans ?_
  have e4 : (streamOf t g).val % 4 = g.val % 4 := by
    show (8 * (t.val % 16) + g.val) % 4 = g.val % 4
    omega
  have ed : (streamOf t g).val / 4 = 2 * (t.val % 16) + g.val / 4 := by
    show (8 * (t.val % 16) + g.val) / 4 = 2 * (t.val % 16) + g.val / 4
    omega
  refine congr (congr (congrArg₂ Cert.DownReferenceIdeal.Hand.mixed (funext fun b => ?_) (funext fun b => ?_)) ?_) ?_
  · refine ((hv R l).1 ⟨g.val % 4 * 4 + b.val, by omega⟩).trans ?_
    exact congrArg (fun n => V m c main_arg2 (ix3 _ n _)) (Fin.ext (by simp only; omega))
  · refine block6 m c t R _ l (rowOf t R) _ rfl ?_
    simp only
    omega
  · refine ((hv R l).2 ⟨g.val % 4, by omega⟩).trans ?_
    exact congrArg (fun n => V m c main_arg3 (ix3 _ n _)) (Fin.ext e4.symm)
  · refine (prods_apply m c t aw ha R _).trans ?_
    refine congrArg _ (Fin.ext ?_)
    show 256 * (t.val % 16) + (g.val / 4 * 128 + l.val) = (streamOf t g).val / 4 * 128 + l.val
    omega

/-- A point's block of the last result. -/
theorem point8 (t : Fin cfg0.N) (R : Fin 1024) (l : Fin 256) : (outsAt0 m c t.val t.isLt).2.1 (ix2 R l) =
    Cert.DownReferenceIdeal.Value.G8 (V m c main_arg0) (V m c main_arg1) (V m c main_arg2) (V m c main_arg3) (V m c main_arg4)
      (V m c main_arg5) (V m c main_arg6) (ix2 (rowOf t R) (colOf t l)) := by
  obtain ⟨aw, v, he, ha, _⟩ := point_scratch m c t
  rw [(parts he).2.1, canonO]
  refine Eq.trans ?_ (Cert.DownReferenceIdeal.Hand.G8_apply _ _ _ _ _ _ _ (rowOf t R) (colOf t l)).symm
  exact prods_apply m c t aw ha R l

/-- The array of the first result. -/
theorem array7 : (dats m 0 c).arrAt 7 cfg0.N = Cert.DownReferenceIdeal.Value.G7 (V m c main_arg0) (V m c main_arg1)
    (V m c main_arg2) (V m c main_arg3) (V m c main_arg4) (V m c main_arg5) (V m c main_arg6) := by
  refine (dats m 0 c).arrAt_eq_of_covers 7 _ (by decide +kernel) fun t hf y => ?_
  blk_simp
  rw [after0_7]
  have ht := lt_points t
  obtain ⟨R, g, l, rfl⟩ : ∃ (R : Fin 1024) (g : Fin 8) (l : Fin 128), y = ix3 R g l := ⟨y 0, y 1, y 2, eq_ix3 y⟩
  refine (point7 m c t R g l).trans (congrArg _ ?_)
  blk_ext [rowOf, streamOf, (index t).2.2.2.2.2.2.2.1]

/-- The array of the last result. -/
theorem array8 : (dats m 0 c).arrAt 8 cfg0.N = Cert.DownReferenceIdeal.Value.G8 (V m c main_arg0) (V m c main_arg1)
    (V m c main_arg2) (V m c main_arg3) (V m c main_arg4) (V m c main_arg5) (V m c main_arg6) := by
  refine (dats m 0 c).arrAt_eq_of_covers 8 _ (by decide +kernel) fun t hf y => ?_
  blk_simp
  rw [after0_8]
  have ht := lt_points t
  obtain ⟨R, l, rfl⟩ : ∃ (R : Fin 1024) (l : Fin 256), y = ix2 R l := ⟨y 0, y 1, eq_ix2 y⟩
  refine (point8 m c t R l).trans (congrArg _ ?_)
  blk_ext [rowOf, colOf, (index t).2.2.2.2.2.2.2.2]

/-- The down projection's run, with its arrays as the reference's functions of the arguments. -/
theorem run (ρ : Dev nD → PrngReg) : θ_run defs (onTc (τ := τ) (main (F := Ideal))) ⟨m, fun _ => 0, ρ⟩ fun r => ∀ c : Dev nD,
      r.2.mem ((c : Thread nD τ).loc main_v0_0) = Cert.DownReferenceIdeal.Value.G7 (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6))
      ∧ r.2.mem ((c : Thread nD τ).loc main_v0_1) = Cert.DownReferenceIdeal.Value.G8 (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (array7 m c), (h c).2.1.trans (array8 m c), (h c).2.2⟩)
    (Cert.DownIdeal.Value.run_blocks m ρ)

end Cert.DownIdeal.Hand
-- ==== Proof.lean ====
/-
  The proof of the claim: the runs of the kernel, of its idealization and of the reference.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Arrays
public import proofs.«01_k».proof.Proof.Gen.Down
public import proofs.«01_k».proof.Proof.Gen.DownIdeal
public import proofs.«01_k».proof.Proof.Gen.DownReferenceIdeal
public import proofs.«01_k».proof.Proof.Gen.Down.Frame
public import proofs.«01_k».proof.Proof.Gen.DownIdeal.Frame
public import proofs.«01_k».proof.Proof.Gen.DownReferenceIdeal.Frame
public import proofs.«01_k».proof.Proof.Gen.DownIdeal.Value
public import proofs.«01_k».proof.Proof.Gen.DownReferenceIdeal.Value
public import proofs.«01_k».proof.Proof.DownPoints
public import Idealize.ShloMosaic.Adequacy
public import Idealize.ShloMosaic.Init

@[expose] public section

set_option maxRecDepth 16384

noncomputable section

namespace Cert.Proof

open Idealize.ShloMosaic Idealize.SL.Sem Cert.Kernel

/-- Equal arguments give equal values. -/
theorem congr6 {A B C D E F G : Type} (f : A → B → C → D → E → F → G) {a a' : A} {b b' : B} {c c' : C} {d d' : D} {e e' : E}
    {x x' : F} (ha : a = a') (hb : b = b') (hc : c = c') (hd : d = d') (he : e = e') (hx : x = x') :
    f a b c d e x = f a' b' c' d' e' x' := by
  subst ha hb hc hd he hx
  rfl

/-- The idealized kernel and the idealized reference leave equal arrays. -/
theorem algebraic : Cert.algebraic_KernelIdeal_ReferenceIdeal := by
  intro m g m' g' _ hagree
  refine ⟨fun c => Cert.ReferenceIdeal.Value.G6 (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg5)),
    fun c => Cert.ReferenceIdeal.Value.G7 (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg5)),
    fun c => Cert.ReferenceIdeal.Value.G8 (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg5)),
    fun c => Cert.ReferenceIdeal.Value.G9 (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg5)),
    Cert.KernelIdeal.Hand.run m g, ?_⟩
  refine θ_run_mono (Cert.ReferenceIdeal.Value.run m' g') fun r h c => ?_
  obtain ⟨e0, e1, e2, e3, e4, e5⟩ := hagree c
  exact ⟨(h c).1.trans (congr6 _ e0 e1 e2 e4 e3 e5), (h c).2.1.trans (congr6 _ e0 e1 e2 e4 e3 e5),
    (h c).2.2.1.trans (congr6 _ e0 e1 e2 e4 e3 e5), (h c).2.2.2.1.trans (congr6 _ e0 e1 e2 e4 e3 e5), (h c).2.2.2.2⟩

/-- Equal arguments give equal values. -/
theorem congr7 {A B C D E F G H : Type} (f : A → B → C → D → E → F → G → H) {a a' : A} {b b' : B} {c c' : C} {d d' : D} {e e' : E}
    {x x' : F} {y y' : G} (ha : a = a') (hb : b = b') (hc : c = c') (hd : d = d') (he : e = e') (hx : x = x') (hy : y = y') :
    f a b c d e x y = f a' b' c' d' e' x' y' := by
  subst ha hb hc hd he hx hy
  rfl

/-- The idealized down projection and its idealized reference leave equal arrays. -/
theorem down : Cert.algebraic_DownIdeal_DownReferenceIdeal := by
  intro m g m' g' _ hagree
  refine ⟨fun c => Cert.DownReferenceIdeal.Value.G7 (m ((c.tc : Thread Cert.DownIdeal.nD Cert.DownIdeal.τ).loc Cert.DownIdeal.main_arg0))
      (m ((c.tc : Thread Cert.DownIdeal.nD Cert.DownIdeal.τ).loc Cert.DownIdeal.main_arg1))
      (m ((c.tc : Thread Cert.DownIdeal.nD Cert.DownIdeal.τ).loc Cert.DownIdeal.main_arg2))
      (m ((c.tc : Thread Cert.DownIdeal.nD Cert.DownIdeal.τ).loc Cert.DownIdeal.main_arg3))
      (m ((c.tc : Thread Cert.DownIdeal.nD Cert.DownIdeal.τ).loc Cert.DownIdeal.main_arg4))
      (m ((c.tc : Thread Cert.DownIdeal.nD Cert.DownIdeal.τ).loc Cert.DownIdeal.main_arg5))
      (m ((c.tc : Thread Cert.DownIdeal.nD Cert.DownIdeal.τ).loc Cert.DownIdeal.main_arg6)),
    fun c => Cert.DownReferenceIdeal.Value.G8 (m ((c.tc : Thread Cert.DownIdeal.nD Cert.DownIdeal.τ).loc Cert.DownIdeal.main_arg0))
      (m ((c.tc : Thread Cert.DownIdeal.nD Cert.DownIdeal.τ).loc Cert.DownIdeal.main_arg1))
      (m ((c.tc : Thread Cert.DownIdeal.nD Cert.DownIdeal.τ).loc Cert.DownIdeal.main_arg2))
      (m ((c.tc : Thread Cert.DownIdeal.nD Cert.DownIdeal.τ).loc Cert.DownIdeal.main_arg3))
      (m ((c.tc : Thread Cert.DownIdeal.nD Cert.DownIdeal.τ).loc Cert.DownIdeal.main_arg4))
      (m ((c.tc : Thread Cert.DownIdeal.nD Cert.DownIdeal.τ).loc Cert.DownIdeal.main_arg5))
      (m ((c.tc : Thread Cert.DownIdeal.nD Cert.DownIdeal.τ).loc Cert.DownIdeal.main_arg6)),
    Cert.DownIdeal.Hand.run m g, ?_⟩
  refine θ_run_mono (Cert.DownReferenceIdeal.Value.run m' g') fun r h c => ?_
  obtain ⟨e0, e1, e2, e3, e4, e5, e6⟩ := hagree c
  exact ⟨(h c).1.trans (congr7 _ e0 e1 e2 e3 e4 e5 e6), (h c).2.1.trans (congr7 _ e0 e1 e2 e3 e4 e5 e6), (h c).2.2⟩

/-- The claim. -/
theorem claim : Cert.Claim := ⟨Cert.Kernel.Gen.facts, Cert.KernelIdeal.Gen.facts, Cert.ReferenceIdeal.Gen.facts,
  Cert.Down.Gen.facts, Cert.DownIdeal.Gen.facts, Cert.DownReferenceIdeal.Gen.facts,
  fun m ρ _ => Cert.Kernel.Gen.frame m ρ, fun m ρ _ => Cert.KernelIdeal.Gen.frame m ρ,
  fun m ρ _ => Cert.ReferenceIdeal.Gen.frame m ρ, fun m ρ _ => Cert.Down.Gen.frame m ρ, fun m ρ _ => Cert.DownIdeal.Gen.frame m ρ,
  fun m ρ _ => Cert.DownReferenceIdeal.Gen.frame m ρ, trivial, algebraic, trivial, down⟩

end Cert.Proof

end
